-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_separated [hPre_separated : Cert.Pre_separated.Facts] (m : (ℓ : Loc Cert.KernelIdeal.nD Cert.KernelIdeal.τ Cert.KernelIdeal.sig) → Buf (Elt Ideal) ℓ) : Prop :=
  ∀ c : Dev Cert.KernelIdeal.nD,
    (Cert.Pre_separated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_separated [hPre_separated : Cert.Pre_separated.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_separated.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_separated [hKernelIdeal : Cert.KernelIdeal.Facts] [hPre_separated : Cert.Pre_separated.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_separated m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_separated [hReferenceIdeal : Cert.ReferenceIdeal.Facts] [hPre_separated : Cert.Pre_separated.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_separated m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "floor_sq" .f32 0x179ABE15#32 ((5316911940649 / 5316911983139663491615228241121378304 : ℝ) : EReal)

def algebraic_KernelIdeal_ReferenceIdeal_pre_separated [hKernelIdeal : Cert.KernelIdeal.Facts] [hReferenceIdeal : Cert.ReferenceIdeal.Facts] [hPre_separated : Cert.Pre_separated.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_separated m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_separated : Cert.Pre_separated.Facts),
    quiescent_Kernel (hKernel := hKernel)
    ∧ quiescent_KernelIdeal (hKernelIdeal := hKernelIdeal)
    ∧ quiescent_KernelIdeal_pre_separated (hKernelIdeal := hKernelIdeal) (hPre_separated := hPre_separated)
    ∧ quiescent_ReferenceIdeal (hReferenceIdeal := hReferenceIdeal)
    ∧ quiescent_ReferenceIdeal_pre_separated (hReferenceIdeal := hReferenceIdeal) (hPre_separated := hPre_separated)
    ∧ preserves_Kernel_KernelIdeal
    ∧ algebraic_KernelIdeal_ReferenceIdeal_pre_separated (hKernelIdeal := hKernelIdeal) (hReferenceIdeal := hReferenceIdeal) (hPre_separated := hPre_separated)
-- ==== Pre_separated.lean ====
abbrev S4096x1024 : Shape := ⟨2, ![4096, 1024]⟩
abbrev S8192x1024 : Shape := ⟨2, ![8192, 1024]⟩
abbrev S_ : Shape := ⟨0, ![]⟩
abbrev S4096 : Shape := ⟨1, ![4096]⟩
abbrev S4096x1 : Shape := ⟨2, ![4096, 1]⟩
abbrev S1024x8192 : Shape := ⟨2, ![1024, 8192]⟩
abbrev S4096x8192 : Shape := ⟨2, ![4096, 8192]⟩
abbrev S4096x65 : Shape := ⟨2, ![4096, 65]⟩
abbrev S4096x59 : Shape := ⟨2, ![4096, 59]⟩

class Facts : Prop where
  reducesTo_S4096x1024_S4096_d1 : S4096x1024.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x1024_0_1 : S4096x1.BroadcastsInDim S4096x1024 (![0, 1] : Fin 2 → Fin S4096x1024.rank)
  transposes_S8192x1024_S1024x8192_1_0 : S8192x1024.Transposes [1, 0] S1024x8192
  sliceFits_S4096x8192_S4096x65 : S4096x8192.Slices (fun _ => 0) S4096x65
  slices_S4096x65_S4096x1_0_0 : S4096x65.Slices ![0, 0] S4096x1
  slices_S4096x65_S4096x1_0_63 : S4096x65.Slices ![0, 63] S4096x1
  bcast_S4096x1_S4096x65_0_1 : S4096x1.BroadcastsInDim S4096x65 (![0, 1] : Fin 2 → Fin S4096x65.rank)
  slices_S4096x65_S4096x59_0_0 : S4096x65.Slices ![0, 0] S4096x59
  slices_S4096x65_S4096x59_0_5 : S4096x65.Slices ![0, 5] S4096x59
  bcast_S_S4096x59 : S_.BroadcastsInDim S4096x59 (![] : Fin 0 → Fin S4096x59.rank)
  slices_S4096x65_S4096x59_0_6 : S4096x65.Slices ![0, 6] S4096x59
  bcast_S4096x1_S4096x59_0_1 : S4096x1.BroadcastsInDim S4096x59 (![0, 1] : Fin 2 → Fin S4096x59.rank)
  dot_S4096x1024_S1024x8192_S4096x8192_1_0_0_1_n_n_wf : DotDims.WF S4096x1024 S1024x8192 S4096x8192 [1] [0] [0] [1] [] []

variable [Facts]

def dot_S4096x1024_S1024x8192_S4096x8192_1_0_0_1_n_n : DotDims S4096x1024 S1024x8192 S4096x8192 where
  lhsContracting := [1]
  rhsContracting := [0]
  lhsNonContracting := [0]
  rhsNonContracting := [1]
  lhsBatch := []
  rhsBatch := []
  wf := dot_S4096x1024_S1024x8192_S4096x8192_1_0_0_1_n_n_wf
def fn_norm {F : FTy → Type} [FloatOps F] (arg0 : FVec F S4096x1024 .f32) : FVec F S4096x1 .f32 :=
  let v0 : FVec F S4096x1024 .f32 := mulf arg0 arg0
  let cst : FVec F S_ .f32 := constant S_ .f32 0x00000000#32
  let v1 : FVec F S4096 .f32 := (fun x v => Host.reduceAdd x v reducesTo_S4096x1024_S4096_d1 h_S_) v0 cst
  let v2 : FVec F S4096x1 .f32 := broadcastInDim S4096x1 ![0] bcast_S4096_S4096x1_0 v1
  let v3 : FVec F S4096x1 .f32 := Host.sqrt v2
  v3

def fn_clip {F : FTy → Type} [FloatOps F] (arg0 : FVec F S4096x1 .f32) (arg1 : FVec F S_ .f32) : FVec F S4096x1 .f32 :=
  let v0 : FVec F S_ .f32 := id arg1
  let v1 : FVec F S4096x1 .f32 := broadcastInDim S4096x1 ![] bcast_S_S4096x1 v0
  let v2 : FVec F S4096x1 .f32 := maximumf v1 arg0
  v2

def fn_part1 {F : FTy → Type} [FloatOps F] (main_values : FVec F S4096x65 .f32) (main_v11 : FVec F S4096x1 .f32) (main_v17 : IVec S4096x65 1) : IVec S4096x59 1 :=
  let main_v18 : IVec S4096x59 1 := (extractStridedSlice S4096x59 ![0, 0] · slices_S4096x65_S4096x59_0_0) main_v17
  let main_v19 : FVec F S4096x59 .f32 := (extractStridedSlice S4096x59 ![0, 5] · slices_S4096x65_S4096x59_0_5) main_values
  let main_cst_3 : FVec F S_ .f32 := constant S_ .f32 0x00000000#32
  let main_v20 : FVec F S4096x59 .f32 := broadcastInDim S4096x59 ![] bcast_S_S4096x59 main_cst_3
  let main_v21 : IVec S4096x59 1 := cmpf .ole main_v19 main_v20
  let main_v22 : IVec S4096x59 1 := ori main_v18 main_v21
  let main_v23 : FVec F S4096x59 .f32 := (extractStridedSlice S4096x59 ![0, 6] · slices_S4096x65_S4096x59_0_6) main_values
  let main_v24 : FVec F S4096x59 .f32 := (extractStridedSlice S4096x59 ![0, 5] · slices_S4096x65_S4096x59_0_5) main_values
  let main_v25 : IVec S4096x59 1 := cmpf .olt main_v23 main_v24
  let main_v26 : IVec S4096x59 1 := (extractStridedSlice S4096x59 ![0, 5] · slices_S4096x65_S4096x59_0_5) main_v17
  let main_v27 : IVec S4096x59 1 := ori main_v25 main_v26
  let main_cst_4 : FVec F S_ .f32 := constant S_ .f32 0x00000000#32
  let main_v28 : FVec F S4096x1 .f32 := broadcastInDim S4096x1 ![] bcast_S_S4096x1 main_cst_4
  let main_v29 : IVec S4096x1 1 := cmpf .ole main_v11 main_v28
  let main_v30 : IVec S4096x59 1 := broadcastInDim S4096x59 ![0, 1] bcast_S4096x1_S4096x59_0_1 main_v29
  let main_v31 : IVec S4096x59 1 := ori main_v27 main_v30
  let main_v32 : IVec S4096x59 1 := andi main_v22 main_v31
  main_v32

def fn {F : FTy → Type} [FloatOps F] (main_arg0 : FVec F S4096x1024 .f32) (main_arg1 : FVec F S8192x1024 .f32) : IVec S4096x59 1 :=
  let main_v0 : FVec F S4096x1 .f32 := fn_norm (F := F) main_arg0
  let main_cst : FVec F S_ .f32 := constant S_ .f32 0x2B8CBCCC#32
  let main_v1 : FVec F S4096x1 .f32 := fn_clip (F := F) main_v0 main_cst
  let main_v2 : FVec F S4096x1024 .f32 := broadcastInDim S4096x1024 ![0, 1] bcast_S4096x1_S4096x1024_0_1 main_v1
  let main_v3 : FVec F S4096x1024 .f32 := Host.divf main_arg0 main_v2
  let main_v4 : FVec F S1024x8192 .f32 := (transpose S1024x8192 [1, 0] · transposes_S8192x1024_S1024x8192_1_0) main_arg1
  let main_v5 : FVec F S4096x8192 .f32 := (fun l r => Host.dotGeneral dot_S4096x1024_S1024x8192_S4096x8192_1_0_0_1_n_n none l r) main_v3 main_v4
  let main_values : FVec F S4096x65 .f32 := (fun x => (Host.topK S4096x65 1 (FloatOps.cmpfTotal .gt) x sliceFits_S4096x8192_S4096x65).1) main_v5
  let main_indices : IVec S4096x65 32 := (fun x => (Host.topK S4096x65 1 (FloatOps.cmpfTotal .gt) x sliceFits_S4096x8192_S4096x65).2) main_v5
  let main_v6 : FVec F S4096x1 .f32 := (extractStridedSlice S4096x1 ![0, 0] · slices_S4096x65_S4096x1_0_0) main_values
  let main_cst_0 : FVec F S_ .f32 := constant S_ .f32 0x358637BD#32
  let main_v7 : FVec F S4096x1 .f32 := broadcastInDim S4096x1 ![] bcast_S_S4096x1 main_cst_0
  let main_v8 : FVec F S4096x1 .f32 := addf main_v6 main_v7
  let main_cst_1 : FVec F S_ .f32 := constant S_ .f32 0x45000000#32
  let main_v9 : FVec F S4096x1 .f32 := broadcastInDim S4096x1 ![] bcast_S_S4096x1 main_cst_1
  let main_v10 : FVec F S4096x1 .f32 := Host.divf main_v8 main_v9
  let main_v11 : FVec F S4096x1 .f32 := (extractStridedSlice S4096x1 ![0, 63] · slices_S4096x65_S4096x1_0_63) main_values
  let main_cst_2 : FVec F S_ .f32 := constant S_ .f32 0x00000000#32
  let main_v12 : FVec F S4096x1 .f32 := broadcastInDim S4096x1 ![] bcast_S_S4096x1 main_cst_2
  let main_v13 : FVec F S4096x1 .f32 := maximumf main_v11 main_v12
  let main_v14 : FVec F S4096x65 .f32 := broadcastInDim S4096x65 ![0, 1] bcast_S4096x1_S4096x65_0_1 main_v13
  let main_v15 : FVec F S4096x65 .f32 := subf main_values main_v14
  let main_v16 : FVec F S4096x65 .f32 := broadcastInDim S4096x65 ![0, 1] bcast_S4096x1_S4096x65_0_1 main_v10
  let main_v17 : IVec S4096x65 1 := cmpf .oge main_v15 main_v16
  fn_part1 (F := F) main_values main_v11 main_v17
-- ==== Kernel.lean ====
abbrev S4096x1024 : Shape := ⟨2, ![4096, 1024]⟩
abbrev S8192x1024 : Shape := ⟨2, ![8192, 1024]⟩
abbrev S1024x8192 : Shape := ⟨2, ![1024, 8192]⟩
abbrev S4096x8192 : Shape := ⟨2, ![4096, 8192]⟩
abbrev S128x1024 : Shape := ⟨2, ![128, 1024]⟩
abbrev S128x8192 : Shape := ⟨2, ![128, 8192]⟩
abbrev S128 : Shape := ⟨1, ![128]⟩
abbrev S128x1 : Shape := ⟨2, ![128, 1]⟩

abbrev nBuf : Space → Nat
  | .hbm => 4
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S8192x1024, .f32⟩
  | .hbm, ⟨2, _⟩ => ⟨S1024x8192, .f32⟩
  | .hbm, ⟨3, _⟩ => ⟨S4096x8192, .f32⟩
  | .local _ .vmem, ⟨0, _⟩ => ⟨S128x1024, .f32⟩
  | .local _ .vmem, ⟨1, _⟩ => ⟨S128x1024, .f32⟩
  | .local _ .vmem, ⟨2, _⟩ => ⟨S1024x8192, .f32⟩
  | .local _ .vmem, ⟨3, _⟩ => ⟨S128x8192, .f32⟩
  | .local _ .vmem, ⟨4, _⟩ => ⟨S128x8192, .f32⟩
  | .local _ .vmem, ⟨5, _⟩ => ⟨S128x8192, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32 : BitVec 32 := 0#32
  let c11_i32 : BitVec 32 := 11#32
  let v21 : BitVec 32 := Scalar.addi c0_i32 c11_i32
  let c1_i32 : BitVec 32 := 1#32
  ⟨c0_i32, v21, c1_i32⟩
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x8192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== KernelIdeal.lean ====
variable {F : FTy → Type} [FloatOps F] [Named F]
def κ : String → Option EReal := fun
  | "floor_sq" => some ((5316911940649 / 5316911983139663491615228241121378304 : ℝ) : EReal)
  | _ => none
-- ==== ReferenceIdeal.lean ====
abbrev S4096x1024 : Shape := ⟨2, ![4096, 1024]⟩
abbrev S8192x1024 : Shape := ⟨2, ![8192, 1024]⟩
abbrev S_ : Shape := ⟨0, ![]⟩
abbrev S4096 : Shape := ⟨1, ![4096]⟩
abbrev S4096x1 : Shape := ⟨2, ![4096, 1]⟩
abbrev S1024x8192 : Shape := ⟨2, ![1024, 8192]⟩
abbrev S4096x8192 : Shape := ⟨2, ![4096, 8192]⟩
abbrev S4096x64 : Shape := ⟨2, ![4096, 64]⟩
abbrev S4096x64x1 : Shape := ⟨3, ![4096, 64, 1]⟩
abbrev S4096x64x2 : Shape := ⟨3, ![4096, 64, 2]⟩

abbrev nBuf : Space → Nat
  | .hbm => 43
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S8192x1024, .f32⟩
  | .hbm, ⟨2, _⟩ => ⟨S4096x1024, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S4096x1, .f32⟩
  | .hbm, ⟨7, _⟩ => ⟨S_, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S4096x1024, .f32⟩
  | .hbm, ⟨12, _⟩ => ⟨S4096x1024, .f32⟩
  | .hbm, ⟨13, _⟩ => ⟨S1024x8192, .f32⟩
  | .hbm, ⟨14, _⟩ => ⟨S4096x8192, .f32⟩
  | .hbm, ⟨15, _⟩ => ⟨S4096x64, .f32⟩
  | .hbm, ⟨16, _⟩ => ⟨S4096x64, .i32⟩
  | .hbm, ⟨17, _⟩ => ⟨S4096, .i32⟩
  | .hbm, ⟨18, _⟩ => ⟨S4096x1, .i32⟩
  | .hbm, ⟨19, _⟩ => ⟨S_, .f32⟩
  | .hbm, ⟨20, _⟩ => ⟨S4096x8192, .f32⟩
  | .hbm, ⟨21, _⟩ => ⟨S_, .f32⟩
  | .hbm, ⟨22, _⟩ => ⟨S4096x64, .f32⟩
  | .hbm, ⟨23, _⟩ => ⟨S4096x64, .f32⟩
  | .hbm, ⟨24, _⟩ => ⟨S_, .i32⟩
  | .hbm, ⟨25, _⟩ => ⟨S4096x1, .i32⟩
  | .hbm, ⟨26, _⟩ => ⟨S4096x1, .i1⟩
  | .hbm, ⟨27, _⟩ => ⟨S_, .i32⟩
  | .hbm, ⟨28, _⟩ => ⟨S4096x1, .i32⟩
  | .hbm, ⟨29, _⟩ => ⟨S4096x1, .i32⟩
  | .hbm, ⟨30, _⟩ => ⟨S4096x1, .i32⟩
  | .hbm, ⟨31, _⟩ => ⟨S_, .i32⟩
  | .hbm, ⟨32, _⟩ => ⟨S4096x64, .i32⟩
  | .hbm, ⟨33, _⟩ => ⟨S4096x64, .i1⟩
  | .hbm, ⟨34, _⟩ => ⟨S_, .i32⟩
  | .hbm, ⟨35, _⟩ => ⟨S4096x64, .i32⟩
  | .hbm, ⟨36, _⟩ => ⟨S4096x64, .i32⟩
  | .hbm, ⟨37, _⟩ => ⟨S4096x64, .i32⟩
  | .hbm, ⟨38, _⟩ => ⟨S4096x64, .i32⟩
  | .hbm, ⟨39, _⟩ => ⟨S4096x64x1, .i32⟩
  | .hbm, ⟨40, _⟩ => ⟨S4096x64x1, .i32⟩
  | .hbm, ⟨41, _⟩ => ⟨S4096x64x2, .i32⟩
  | .hbm, ⟨42, _⟩ => ⟨S4096x8192, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_call1_v0 : Ref sig .tc := ⟨.hbm, 8, rfl⟩
abbrev main_call1_v1 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_values : Ref sig .tc := ⟨.hbm, 15, rfl⟩
abbrev main_indices : Ref sig .tc := ⟨.hbm, 16, rfl⟩
abbrev main_v6 : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_cst_1 : Ref sig .tc := ⟨.hbm, 21, rfl⟩
abbrev main_v9 : Ref sig .tc := ⟨.hbm, 22, rfl⟩
abbrev main_v10 : Ref sig .tc := ⟨.hbm, 23, rfl⟩
abbrev main_c : Ref sig .tc := ⟨.hbm, 24, rfl⟩
abbrev main_v11 : Ref sig .tc := ⟨.hbm, 25, rfl⟩
abbrev main_v12 : Ref sig .tc := ⟨.hbm, 26, rfl⟩
abbrev main_c_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_c_3 : Ref sig .tc := ⟨.hbm, 31, rfl⟩
abbrev main_v16 : Ref sig .tc := ⟨.hbm, 32, rfl⟩
abbrev main_v17 : Ref sig .tc := ⟨.hbm, 33, rfl⟩
abbrev main_c_4 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩

abbrev nD : Nat := 1
abbrev τ : Topo := Topo.v7x

variable {F : FTy → Type} [FloatOps F]
-- ==== Proof.Threshold.lean ====
/-
  THE THRESHOLD OF ONE ROW. The kernel's row algorithm as functions of a row of extended reals: eleven bisection steps on
  (lower end, upper end, number of scores at or above the upper end), then at most five descents "the largest score below".
  `masked_eq`: on a row `u` in descending order whose scores near the cut are few and distinct (`Separated`), keeping the
  positive part of the scores at or above the threshold is keeping the positive part of the first 64.
-/
module

public import Idealize.ShloMosaic.PureOps.Ideal
public import Mathlib.Data.EReal.Operations
public import Mathlib.Data.EReal.Inv
public import Mathlib.Order.Interval.Finset.Fin
public import Mathlib.Tactic.Linarith
public import Mathlib.Tactic.FieldSimp
public import Mathlib.Tactic.Positivity

@[expose] public section

noncomputable section

namespace Cert.Threshold

/-- The number of scores of the row that are at least `x`. -/
def count {N : ℕ} (s : Fin N → EReal) (x : EReal) : ℕ := (Finset.univ.filter fun c => x ≤ s c).card

/-- The largest of the scores below `cur`, and `neg` at least. -/
def below {N : ℕ} (neg : EReal) (s : Fin N → EReal) (cur : EReal) : EReal :=
  Finset.univ.sup fun c => if s c < cur then s c else neg

/-- The bisection's state: lower end, upper end, number of scores at or above the upper end. -/
abbrev State := EReal × EReal × ℕ

/-- The midpoint of the state's ends. -/
def mid (a : State) : EReal := (a.1 + a.2.1) * ((1 / 2 : ℝ) : EReal)

/-- One bisection step: the midpoint becomes the lower end where at least 64 scores reach it, else the upper end. -/
def step {N : ℕ} (s : Fin N → EReal) (a : State) : State :=
  (if 64 ≤ count s (mid a) then mid a else a.1,
   if 64 ≤ count s (mid a) then a.2.1 else mid a,
   if 64 ≤ count s (mid a) then a.2.2 else count s (mid a))

/-- The state before step `k`, from `a`. -/
def iter {N : ℕ} (s : Fin N → EReal) (a : State) : ℕ → State
  | 0 => a
  | k + 1 => step s (iter s a k)

/-- `e` descents from `hi`. -/
def desc {N : ℕ} (neg : EReal) (s : Fin N → EReal) (hi : EReal) : ℕ → EReal
  | 0 => hi
  | e + 1 => below neg s (desc neg s hi e)

/-- The threshold from the bisection's last state: the descent after as many steps as scores are missing, at most five. -/
def thrOf {N : ℕ} (neg : EReal) (s : Fin N → EReal) (a : State) : EReal :=
  let j := 64 - a.2.2
  let m := desc neg s a.2.1
  if 5 < j then m 5 else if j = 5 then m 5 else if j = 4 then m 4 else if j = 3 then m 3 else if j = 2 then m 2
    else if j = 1 then m 1 else neg

/-- The kernel's threshold of a row: from the ends 0 and maximum plus `ε`, after eleven steps. -/
def thr {N : ℕ} (ε neg : EReal) (s : Fin N → EReal) : EReal :=
  thrOf neg s (iter s (0, Finset.univ.sup s + ε, 0) 11)

/-- Score `r` of the descending row `u` is at least the bracket's width above the cut. -/
def Far {N : ℕ} (ε : EReal) (hN : 64 < N) (u : Fin N → EReal) (r : Fin N) : Prop :=
  (u ⟨0, by omega⟩ + ε) * ((1 / 2048 : ℝ) : EReal) ≤ u r - max (u ⟨63, by omega⟩) 0

/-- Near the cut the descending row's scores are few and distinct. -/
def Separated {N : ℕ} (ε : EReal) (hN : 64 < N) (u : Fin N → EReal) : Prop :=
  ∀ i : Fin 59,
    (Far ε hN u ⟨i.val, by omega⟩ ∨ u ⟨i.val + 5, by omega⟩ ≤ 0) ∧
    (u ⟨i.val + 6, by omega⟩ < u ⟨i.val + 5, by omega⟩ ∨ Far ε hN u ⟨i.val + 5, by omega⟩ ∨ u ⟨63, by omega⟩ ≤ 0)

/-! ## Rearranging the row changes nothing -/

section Perm

variable {N : ℕ} (s : Fin N → EReal) (σ : Equiv.Perm (Fin N))

theorem count_perm (x : EReal) : count (s ∘ σ) x = count s x := by
  unfold count
  refine Finset.card_bij (fun c _ => σ c) (fun c hc => ?_) (fun _ _ _ _ h => σ.injective h) (fun c hc => ?_)
  · simpa using hc
  · exact ⟨σ.symm c, by simpa using hc, by simp⟩

theorem sup_perm (f : Fin N → EReal) : Finset.univ.sup (f ∘ σ) = Finset.univ.sup f := by
  apply le_antisymm
  · exact Finset.sup_le fun c _ => Finset.le_sup (f := f) (Finset.mem_univ (σ c))
  · refine Finset.sup_le fun c _ => ?_
    have := Finset.le_sup (f := f ∘ σ) (Finset.mem_univ (σ.symm c))
    simpa using this

theorem below_perm (neg cur : EReal) : below neg (s ∘ σ) cur = below neg s cur :=
  sup_perm σ fun c => if s c < cur then s c else neg

theorem iter_perm (a : State) (k : ℕ) : iter (s ∘ σ) a k = iter s a k := by
  induction k with
  | zero => rfl
  | succ k ih => simp only [iter, ih, step, count_perm]

theorem desc_perm (neg hi : EReal) (e : ℕ) : desc neg (s ∘ σ) hi e = desc neg s hi e := by
  induction e with
  | zero => rfl
  | succ e ih => simp only [desc, ih, below_perm]

theorem thr_perm (ε neg : EReal) : thr ε neg (s ∘ σ) = thr ε neg s := by
  unfold thr thrOf
  simp only [iter_perm, desc_perm, sup_perm σ s]

end Perm

/-! ## Counts and descents on a descending row -/

section Sorted

variable {N : ℕ} {u : Fin N → EReal} (hu : Antitone u)
include hu

/-- Rank `r` is below the count exactly when its score counts. -/
theorem lt_count_iff (x : EReal) (r : Fin N) : r.val < count u x ↔ x ≤ u r := by
  unfold count
  constructor
  · intro h
    by_contra hx
    have hsub : (Finset.univ.filter fun c => x ≤ u c) ⊆ Finset.Iio r := by
      intro c hc
      rw [Finset.mem_Iio]
      by_contra hrc
      exact hx (((Finset.mem_filter.mp hc).2).trans (hu (not_lt.mp hrc)))
    have := Finset.card_le_card hsub
    rw [Fin.card_Iio] at this
    omega
  · intro h
    have hsub : Finset.Iic r ⊆ (Finset.univ.filter fun c => x ≤ u c) := by
      intro c hc
      exact Finset.mem_filter.mpr ⟨Finset.mem_univ _, h.trans (hu (Finset.mem_Iic.mp hc))⟩
    have := Finset.card_le_card hsub
    rw [Fin.card_Iic] at this
    omega

/-- The descent finds the first score below `cur`, if that is at least `neg`. -/
theorem below_eq {neg cur : EReal} {r : Fin N} (hlt : ∀ r' < r, cur ≤ u r') (hr : u r < cur) (hneg : neg ≤ u r) :
    below neg u cur = u r := by
  unfold below
  apply le_antisymm
  · refine Finset.sup_le fun c _ => ?_
    split
    · rename_i hc
      refine hu ?_
      by_contra hcr
      exact absurd (hlt c (not_le.mp hcr)) (not_le.mpr hc)
    · exact hneg
  · have := Finset.le_sup (f := fun c => if u c < cur then u c else neg) (Finset.mem_univ r)
    simpa [hr] using this

omit hu in
/-- A descent stays at or below any bound on where it starts, above `neg`. -/
theorem desc_le {neg hi : EReal} (hneg : neg ≤ hi) (e : ℕ) : desc neg u hi e ≤ hi := by
  induction e with
  | zero => exact le_refl _
  | succ e ih =>
    show below neg u (desc neg u hi e) ≤ hi
    unfold below
    refine Finset.sup_le fun c _ => ?_
    split
    · rename_i hc; exact hc.le.trans ih
    · exact hneg

/-- After `e` descents from `hi` the value is at most every positive score among the first `e` below `hi`. -/
theorem desc_le_score {neg hi : EReal} {chi : ℕ} (hneg : neg < 0) (hhi : 0 < hi) (hchi : ∀ r : Fin N, r.val < chi ↔ hi ≤ u r)
    (e : ℕ) : ∀ r : Fin N, chi ≤ r.val → r.val < chi + e → 0 < u r → desc neg u hi e ≤ u r := by
  induction e with
  | zero => intro r h1 h2; omega
  | succ e ih =>
    intro r h1 h2 hr
    show below neg u (desc neg u hi e) ≤ u r
    unfold below
    refine Finset.sup_le fun c _ => ?_
    split
    · rename_i hc
      by_cases hrc : r ≤ c
      · exact hu hrc
      · exfalso
        have hcr : c < r := not_le.mp hrc
        by_cases hcc : c.val < chi
        · have h3 := (hchi c).mp hcc
          exact absurd ((hc.trans_le (desc_le (hneg.le.trans hhi.le) e)).trans_le h3) (lt_irrefl _)
        · have hv : c.val < r.val := hcr
          exact absurd (ih c (by omega) (by omega) (hr.trans_le (hu hcr.le))) (not_le.mpr hc)
    · exact (hneg.trans hr).le

/-- Where the scores from the first below `hi` on are strictly descending and above `neg`, descent `e + 1` is the score of rank
    `chi + e`. -/
theorem desc_eq {neg hi : EReal} {chi : ℕ} (hchi : ∀ r : Fin N, r.val < chi ↔ hi ≤ u r) (e : ℕ) (he : chi + e < N)
    (hneg : neg ≤ u ⟨chi + e, he⟩)
    (hstrict : ∀ e' (h : e' < e), u ⟨chi + e' + 1, by omega⟩ < u ⟨chi + e', by omega⟩) :
    desc neg u hi (e + 1) = u ⟨chi + e, he⟩ := by
  induction e with
  | zero =>
    refine below_eq hu (fun r' hr' => (hchi r').mp hr') ?_ hneg
    exact not_le.mp fun h => by have h' := (hchi _).mpr h; exact absurd h' (Nat.lt_irrefl _)
  | succ e ih =>
    have hle : u ⟨chi + (e + 1), he⟩ ≤ u ⟨chi + e, by omega⟩ := hu (by rw [Fin.le_def]; show chi + e ≤ chi + (e + 1); omega)
    have := ih (by omega) (hneg.trans hle) (fun e' h => hstrict e' (by omega))
    show below neg u (desc neg u hi (e + 1)) = _
    rw [this]
    refine below_eq hu (fun r' hr' => hu ?_) (hstrict e (by omega)) hneg
    rw [Fin.le_def]
    have : r'.val < chi + (e + 1) := hr'
    show r'.val ≤ chi + e
    omega

end Sorted

/-! ## What the bisection leaves -/

section Bisect

variable {N : ℕ} {u : Fin N → EReal} (hu : Antitone u) (hN : 64 < N) {ε : ℝ} (hε : 0 < ε)

include hu in
theorem sup_eq (h0 : 0 < N) : Finset.univ.sup u = u ⟨0, h0⟩ :=
  le_antisymm (Finset.sup_le fun c _ => hu (Fin.le_def.mpr (Nat.zero_le _))) (Finset.le_sup (Finset.mem_univ _))

include hu hε in
/-- A finite positive maximum `M`: before step `k` the ends are real, `(M + ε) / 2 ^ k` apart, the lower not above the cut,
    and the count is the number of scores at or above the upper end, below 64. -/
theorem iter_finite {M : ℝ} (hM : u ⟨0, by omega⟩ = (M : EReal)) (hpos : 0 < M) (k : ℕ) :
    ∃ lo : ℝ, 0 ≤ lo ∧ (lo : EReal) ≤ max (u ⟨63, by omega⟩) 0 ∧
      iter u (0, (M : EReal) + (ε : EReal), 0) k =
        ((lo : EReal), ((lo + (M + ε) / 2 ^ k : ℝ) : EReal), count u ((lo + (M + ε) / 2 ^ k : ℝ) : EReal)) ∧
      count u ((lo + (M + ε) / 2 ^ k : ℝ) : EReal) < 64 := by
  induction k with
  | zero =>
    have hc : count u ((0 + (M + ε) / 2 ^ 0 : ℝ) : EReal) = 0 := by
      by_contra h
      have h1 := (lt_count_iff hu ((0 + (M + ε) / 2 ^ 0 : ℝ) : EReal) ⟨0, by omega⟩).mp (Nat.pos_of_ne_zero h)
      rw [hM] at h1
      have h2 := EReal.coe_le_coe_iff.mp h1
      norm_num at h2
      linarith
    refine ⟨0, le_refl _, le_max_right _ _, ?_, by rw [hc]; norm_num⟩
    rw [hc]
    simp [iter]
  | succ k ih =>
    obtain ⟨lo, h0, hle, hst, hcnt⟩ := ih
    have hmid : mid ((lo : EReal), ((lo + (M + ε) / 2 ^ k : ℝ) : EReal), count u ((lo + (M + ε) / 2 ^ k : ℝ) : EReal))
        = ((lo + (M + ε) / 2 ^ (k + 1) : ℝ) : EReal) := by
      unfold mid
      rw [← EReal.coe_add, ← EReal.coe_mul]
      congr 1
      rw [pow_succ]
      field_simp
      ring
    have hw : 0 < (M + ε) / 2 ^ (k + 1) := by positivity
    by_cases hc : 64 ≤ count u ((lo + (M + ε) / 2 ^ (k + 1) : ℝ) : EReal)
    · refine ⟨lo + (M + ε) / 2 ^ (k + 1), by linarith, ?_, ?_, ?_⟩
      · exact le_max_of_le_left ((lt_count_iff hu _ ⟨63, by omega⟩).mp (by show 63 < _; omega))
      all_goals
        have e : lo + (M + ε) / 2 ^ (k + 1) + (M + ε) / 2 ^ (k + 1) = lo + (M + ε) / 2 ^ k := by
          rw [pow_succ]; field_simp; ring
        rw [e]
      · simp only [iter, hst, step, hmid, if_pos hc]
      · exact hcnt
    · refine ⟨lo, h0, hle, ?_, by omega⟩
      simp only [iter, hst, step, hmid, if_neg hc]

include hu in
/-- An infinite maximum, fewer than 64 infinite scores: after a step the ends are 0 and ⊤, the count that of the infinite scores. -/
theorem iter_top (hc : count u ⊤ < 64) (k : ℕ) : iter u (0, ⊤, 0) (k + 1) = (0, ⊤, count u ⊤) := by
  have hm : ∀ n : ℕ, mid (0, ⊤, n) = ⊤ := fun n => by
    unfold mid
    rw [zero_add]
    exact EReal.top_mul_of_pos (EReal.coe_pos.mpr (by norm_num))
  induction k with
  | zero => simp only [iter, step, hm, if_neg (not_le.mpr hc)]
  | succ k ih => rw [iter, ih]; simp only [step, hm, if_neg (not_le.mpr hc)]

include hu hε in
/-- What the eleven steps leave on a row with a positive score: an upper end `hi > 0`, the count of the scores at or above it,
    below 64, and no score below `hi` is far from the cut. -/
theorem bisected (hsep : Separated (ε : EReal) hN u) (hpos : 0 < u ⟨0, by omega⟩) :
    ∃ lo hi : EReal, ∃ chi : ℕ, iter u (0, Finset.univ.sup u + (ε : EReal), 0) 11 = (lo, hi, chi) ∧ 0 < hi ∧
      (∀ r : Fin N, r.val < chi ↔ hi ≤ u r) ∧ chi < 64 ∧ ∀ r : Fin N, u r < hi → ¬ Far (ε : EReal) hN u r := by
  rw [sup_eq hu (by omega)]
  rcases eq_or_ne (u ⟨0, by omega⟩) ⊤ with htop | htop
  · have hc : count u ⊤ < 64 := by
      by_contra h
      have h63 : u ⟨63, by omega⟩ = ⊤ := top_le_iff.mp ((lt_count_iff hu ⊤ ⟨63, by omega⟩).mp (by show 63 < _; omega))
      have h58 : u ⟨58, by omega⟩ = ⊤ := top_le_iff.mp (h63.symm.le.trans (hu (by rw [Fin.le_def]; show 58 ≤ 63; omega)))
      rcases (hsep ⟨58, by omega⟩).1 with hf | hf
      · unfold Far at hf
        have e : (⟨(⟨58, by omega⟩ : Fin 59).val, by omega⟩ : Fin N) = ⟨58, by omega⟩ := rfl
        rw [e, h58, h63, htop] at hf
        have hm : max (⊤ : EReal) 0 = ⊤ := max_eq_left le_top
        have hs : (⊤ : EReal) - ⊤ = ⊥ := by simp [sub_eq_add_neg]
        rw [hm, hs, EReal.top_add_coe, EReal.top_mul_of_pos (EReal.coe_pos.mpr (by norm_num))] at hf
        simp at hf
      · have e : (⟨(⟨58, by omega⟩ : Fin 59).val + 5, by omega⟩ : Fin N) = ⟨63, by omega⟩ := rfl
        rw [e, h63] at hf
        simp at hf
    refine ⟨0, ⊤, count u ⊤, ?_, EReal.zero_lt_top, fun r => lt_count_iff hu ⊤ r, hc, fun r hr hf => ?_⟩
    · rw [htop, EReal.top_add_coe]; exact iter_top hu hc 10
    · unfold Far at hf
      rw [htop, EReal.top_add_coe, EReal.top_mul_of_pos (EReal.coe_pos.mpr (by norm_num))] at hf
      have h1 : u r - max (u ⟨63, by omega⟩) 0 ≤ u r := by
        have := EReal.sub_le_sub (le_refl (u r)) (le_max_right (u ⟨63, by omega⟩) 0)
        simpa using this
      exact absurd (hf.trans h1) (not_le.mpr hr)
  · obtain ⟨M, hM⟩ : ∃ M : ℝ, u ⟨0, by omega⟩ = (M : EReal) := by
      lift u ⟨0, by omega⟩ to ℝ using ⟨htop, (bot_lt_iff_ne_bot.mp (bot_le.trans_lt hpos))⟩ with M hM
      exact ⟨M, rfl⟩
    have hMpos : 0 < M := by rw [hM] at hpos; exact EReal.coe_pos.mp hpos
    obtain ⟨lo, h0, hle, hst, hcnt⟩ := iter_finite hu hN hε hM hMpos 11
    rw [hM]
    refine ⟨_, _, _, hst, ?_, fun r => lt_count_iff hu _ r, hcnt, fun r hr hf => ?_⟩
    · rw [EReal.coe_pos]; positivity
    · unfold Far at hf
      have hτM : max (u ⟨63, by omega⟩) 0 ≤ (M : EReal) :=
        max_le ((hu (Fin.le_def.mpr (Nat.zero_le _))).trans hM.le) (EReal.coe_nonneg.mpr hMpos.le)
      obtain ⟨τ, hτ⟩ : ∃ τ : ℝ, max (u ⟨63, by omega⟩) 0 = (τ : EReal) := by
        have h1 : max (u ⟨63, by omega⟩) 0 ≠ ⊤ := ne_top_of_le_ne_top (EReal.coe_ne_top M) hτM
        have h2 : max (u ⟨63, by omega⟩) 0 ≠ ⊥ := bot_lt_iff_ne_bot.mp (EReal.bot_lt_zero.trans_le (le_max_right _ _))
        exact ⟨_, (EReal.coe_toReal h1 h2).symm⟩
      rw [hτ] at hf hle
      rw [hM, ← EReal.coe_add, ← EReal.coe_mul] at hf
      have hlo := EReal.coe_le_coe_iff.mp hle
      have hrt : u r ≠ ⊤ := (hr.trans (EReal.coe_lt_top _)).ne
      rcases eq_or_ne (u r) ⊥ with hb | hb
      · rw [hb, EReal.bot_sub] at hf
        exact absurd hf (not_le.mpr (EReal.bot_lt_coe _))
      · obtain ⟨x, hx⟩ : ∃ x : ℝ, u r = (x : EReal) := ⟨_, (EReal.coe_toReal hrt hb).symm⟩
        rw [hx, ← EReal.coe_sub, EReal.coe_le_coe_iff] at hf
        rw [hx, EReal.coe_lt_coe_iff] at hr
        norm_num at hr hf
        linarith

end Bisect

/-! ## The threshold keeps the first 64 -/

/-- On a descending row whose scores near the cut are few and distinct, the positive parts of the scores at or above the
    kernel's threshold are the positive parts of the first 64. -/
theorem masked_eq {N : ℕ} (hN : 64 < N) {u : Fin N → EReal} (hu : Antitone u) {ε neg : ℝ} (hε : 0 < ε) (hneg : neg < 0)
    (hsep : Separated (ε : EReal) hN u) (r : Fin N) :
    (if thr (ε : EReal) (neg : EReal) u ≤ u r then max (u r) 0 else 0) = if r.val < 64 then max (u r) 0 else 0 := by
  have hneg' : (neg : EReal) < 0 := EReal.coe_neg'.mpr hneg
  rcases le_or_gt (u ⟨0, by omega⟩) 0 with hM | hM
  · have : max (u r) 0 = 0 := max_eq_right ((hu (Fin.le_def.mpr (Nat.zero_le _))).trans hM)
    rw [this]; simp
  obtain ⟨lo, hi, chi, hst, hhi, hchi, h64, hfar⟩ := bisected hu hN hε hsep hM
  have hnf : ∀ r : Fin N, chi ≤ r.val → ¬ Far (ε : EReal) hN u r := fun r hr =>
    hfar r (not_le.mp fun h => by have := (hchi r).mpr h; omega)
  have hthr : thr (ε : EReal) (neg : EReal) u = thrOf (neg : EReal) u (lo, hi, chi) := by unfold thr; rw [hst]
  rw [hthr]
  rcases le_or_gt (u ⟨63, by omega⟩) 0 with hlast | hlast
  · -- fewer than 64 positive scores: all of them are kept
    have hR : (if r.val < 64 then max (u r) 0 else 0) = max (u r) 0 := by
      split
      · rfl
      · rename_i h
        have : u r ≤ 0 := (hu (Fin.le_def.mpr (by show 63 ≤ r.val; omega))).trans hlast
        exact (max_eq_right this).symm
    rw [hR]
    rcases le_or_gt (u r) 0 with hr | hr
    · rw [max_eq_right hr]; simp
    · rw [if_pos]
      have key : ∃ e, 1 ≤ e ∧ e = min 5 (64 - chi) ∧ thrOf (neg : EReal) u (lo, hi, chi) = desc (neg : EReal) u hi e := by
        refine ⟨min 5 (64 - chi), by omega, rfl, ?_⟩
        unfold thrOf
        simp only
        split_ifs <;> (first | omega | (congr 1; omega))
      obtain ⟨e, he1, he, ht⟩ := key
      rw [ht]
      by_cases hrc : r.val < chi
      · exact (desc_le (hneg'.le.trans hhi.le) e).trans ((hchi r).mp hrc)
      · have hr63 : r.val < 63 := by
          by_contra h
          exact absurd ((hu (Fin.le_def.mpr (by show 63 ≤ r.val; omega))).trans hlast) (not_le.mpr hr)
        refine desc_le_score hu hneg' hhi hchi e r (by omega) ?_ hr
        by_contra h
        have h5 : chi + 5 ≤ r.val := by omega
        rcases (hsep ⟨r.val - 5, by omega⟩).1 with hf | hf
        · exact hnf _ (by show chi ≤ r.val - 5; omega) hf
        · have e : (⟨r.val - 5 + 5, by omega⟩ : Fin N) = r := Fin.ext (by show r.val - 5 + 5 = r.val; omega)
          simp only [e] at hf
          exact absurd hf (not_le.mpr hr)
  · -- 64 positive scores: the threshold is the 64th
    have h59 : 59 ≤ chi := by
      by_contra h
      rcases (hsep ⟨58, by omega⟩).1 with hf | hf
      · exact hnf _ (by show chi ≤ 58; omega) hf
      · exact absurd hf (not_le.mpr hlast)
    have hstrict : ∀ q (h1 : chi ≤ q) (h2 : q ≤ 63), u ⟨q + 1, by omega⟩ < u ⟨q, by omega⟩ := by
      intro q h1 h2
      have e5 : (⟨q - 5 + 5, by omega⟩ : Fin N) = ⟨q, by omega⟩ := Fin.ext (by show q - 5 + 5 = q; omega)
      have e6 : (⟨q - 5 + 6, by omega⟩ : Fin N) = ⟨q + 1, by omega⟩ := Fin.ext (by show q - 5 + 6 = q + 1; omega)
      have := (hsep ⟨q - 5, by omega⟩).2
      simp only [e5, e6] at this
      rcases this with h | h | h
      · exact h
      · exact absurd h (hnf _ h1)
      · exact absurd h (not_le.mpr hlast)
    have ht : thrOf (neg : EReal) u (lo, hi, chi) = u ⟨63, by omega⟩ := by
      have hd : desc (neg : EReal) u hi (63 - chi + 1) = u ⟨chi + (63 - chi), by omega⟩ := by
        have e63 : (⟨chi + (63 - chi), by omega⟩ : Fin N) = ⟨63, by omega⟩ := Fin.ext (by show chi + (63 - chi) = 63; omega)
        refine desc_eq hu hchi (63 - chi) (by omega) ?_ (fun e' h => hstrict (chi + e') (by omega) (by omega))
        rw [e63]; exact (hneg'.trans hlast).le
      have e63 : (⟨chi + (63 - chi), by omega⟩ : Fin N) = ⟨63, by omega⟩ := Fin.ext (by show chi + (63 - chi) = 63; omega)
      rw [e63] at hd
      rw [← hd]
      unfold thrOf
      simp only
      split_ifs <;> (first | omega | (congr 1; omega))
    rw [ht]
    by_cases h : r.val < 64
    · rw [if_pos h, if_pos (hu (Fin.le_def.mpr (by show r.val ≤ 63; omega)))]
    · rw [if_neg h, if_neg]
      refine not_le.mpr ((hu (Fin.le_def.mpr (by show 64 ≤ r.val; omega) : (⟨64, by omega⟩ : Fin N) ≤ r)).trans_lt ?_)
      exact hstrict 63 (by omega) (by omega)

end Cert.Threshold

end
-- ==== Proof.Consts.lean ====
/-
  THE CONSTANTS the programs print, as real numbers: each once.
-/
module

public import Idealize.ShloMosaic.PureOps.Ideal
public import Idealize.ShloMosaic.Lib.IdealHost
public import Mathlib.Tactic.NormNum

@[expose] public section

noncomputable section

namespace Cert.Consts

open Idealize.ShloMosaic

/-- What the kernel adds to a row's maximum before it searches: the 32-bit 1e-6. -/
def eps : ℝ := 8796093 / 8796093022208

/-- The kernel's stand-in for a masked score. -/
def neg : ℝ := -(14791142 * 2 ^ 104)

/-- The least norm the reference divides by: the 32-bit 1e-12. -/
def floor : ℝ := 9223372 / 9223372036854775808

theorem eps_pos : 0 < eps := by unfold eps; norm_num
theorem neg_neg : neg < 0 := by unfold neg; norm_num
theorem floor_pos : 0 < floor := by unfold floor; norm_num

theorem bits_zero : Ideal.ofBits .f32 0x00000000#32 = 0 := by simp [Ideal.ofBits, Ideal.ieee]
theorem bits_bot : Ideal.ofBits .f32 0xFF800000#32 = ⊥ := by simp [Ideal.ofBits, Ideal.ieee]
theorem bits_eps : Ideal.ofBits .f32 0x358637BD#32 = ((eps : ℝ) : EReal) := by
  simp [Ideal.ofBits, Ideal.ieee, -EReal.coe_mul, eps]
  norm_num
theorem bits_neg : Ideal.ofBits .f32 0xFF61B1E6#32 = ((neg : ℝ) : EReal) := by
  simp [Ideal.ofBits, Ideal.ieee, -EReal.coe_mul, -EReal.coe_neg, neg]
theorem bits_floor : Ideal.ofBits .f32 0x2B8CBCCC#32 = ((floor : ℝ) : EReal) := by
  simp [Ideal.ofBits, Ideal.ieee, -EReal.coe_mul, floor]
  norm_num
theorem bits_half : Ideal.ofBits .f32 0x3F000000#32 = ((1 / 2 : ℝ) : EReal) := by
  simp [Ideal.ofBits, Ideal.ieee, -EReal.coe_mul]
  norm_num
theorem bits_one : Ideal.ofBits .f32 0x3F800000#32 = ((1 : ℝ) : EReal) := by
  simp [Ideal.ofBits, Ideal.ieee, -EReal.coe_mul]
  norm_num
theorem bits_two : Ideal.ofBits .f32 0x40000000#32 = ((2 : ℝ) : EReal) := by
  simp [Ideal.ofBits, Ideal.ieee, -EReal.coe_mul]
  norm_num
theorem bits_three : Ideal.ofBits .f32 0x40400000#32 = ((3 : ℝ) : EReal) := by
  simp [Ideal.ofBits, Ideal.ieee, -EReal.coe_mul]
  norm_num
theorem bits_four : Ideal.ofBits .f32 0x40800000#32 = ((4 : ℝ) : EReal) := by
  simp [Ideal.ofBits, Ideal.ieee, -EReal.coe_mul]
  norm_num
theorem bits_five : Ideal.ofBits .f32 0x40A00000#32 = ((5 : ℝ) : EReal) := by
  simp [Ideal.ofBits, Ideal.ieee, -EReal.coe_mul]
  norm_num
theorem bits_64 : Ideal.ofBits .f32 0x42800000#32 = ((64 : ℝ) : EReal) := by
  simp [Ideal.ofBits, Ideal.ieee, -EReal.coe_mul]
  norm_num
theorem bits_2048 : Ideal.ofBits .f32 0x45000000#32 = ((2048 : ℝ) : EReal) := by
  simp [Ideal.ofBits, Ideal.ieee, -EReal.coe_mul]
  norm_num

/-- The named constant is the square of the reference's least norm. -/
theorem floor_sq : ((5316911940649 / 5316911983139663491615228241121378304 : ℝ) : EReal) = ((floor ^ 2 : ℝ) : EReal) := by
  rw [floor]; norm_num

end Cert.Consts

end
-- ==== Proof.Rows.lean ====
/-
  ROW BY ROW. The kernel's vector operations over a block of rows, read at one row: a row's sum and maximum, a column spread
  over its row, the bisection's step and the descents below it as the functions of one row Proof/Threshold.lean defines.
-/
module

public import proofs.«01_k».proof.Proof.Gen.KernelIdeal.Skeleton
public import proofs.«01_k».proof.Proof.Threshold
public import proofs.«01_k».proof.Proof.Consts
public import Idealize.ShloMosaic.Lib.ValueLayoutCasts
public import Idealize.ShloMosaic.Lib.MatmulPlain
public import Idealize.ShloMosaic.PureOps.Ideal.Laws

@[expose] public section

noncomputable section

namespace Cert.Rows

open Idealize.ShloMosaic Idealize.ShloMosaic.ValueIdx Cert.Threshold

variable {M N : ℕ}

/-- Row `i` of a table. -/
abbrev row (x : (⟨2, ![M, N]⟩ : Shape).Idx → EReal) (i : Fin M) : Fin N → EReal := fun c => x (ix2 i c)

theorem lift_ix1 (h : (⟨2, ![M, N]⟩ : Shape).Reduces [(1 : Fin 2)] ⟨1, ![M]⟩) (i : Fin M) (c : Fin N) :
    h.lift (ix1 i) c = ix2 i c := by
  funext a
  fin_cases a
  · rfl
  · rfl

/-- A row's sum. -/
theorem sum_row (x : FVec Ideal ⟨2, ![M, N]⟩ .f32) (acc : BitVec 32) (h : (⟨2, ![M, N]⟩ : Shape).Reduces [(1 : Fin 2)] ⟨1, ![M]⟩)
    (hφ : FKind.Formats .f32) (hacc : acc = FKind.add.neutral .f32 hφ) (i : Fin M) :
    multiReduction .add [(1 : Fin 2)] ⟨1, ![M]⟩ x acc h hφ hacc (ix1 i) = ∑ c : Fin N, x (ix2 i c) := by
  refine (Ideal.multiReduction_add_single x acc h hφ hacc (ix1 i)).trans (Finset.sum_congr rfl fun c _ => ?_)
  exact congrArg x (lift_ix1 h i c)

/-- A row's maximum. -/
theorem max_row (x : FVec Ideal ⟨2, ![M, N]⟩ .f32) (h : (⟨2, ![M, N]⟩ : Shape).Reduces [(1 : Fin 2)] ⟨1, ![M]⟩)
    (hφ : FKind.Formats .f32) (hacc : 0xFF800000#32 = FKind.maximumf.neutral .f32 hφ) (i : Fin M) :
    multiReduction .maximumf [(1 : Fin 2)] ⟨1, ![M]⟩ x 0xFF800000#32 h hφ hacc (ix1 i) = Finset.univ.sup (row x i) := by
  refine (Ideal.multiReduction_maximumf_single x _ h hφ hacc (ix1 i)).trans ?_
  show Finset.univ.fold max (Ideal.ofBits .f32 0xFF800000#32) (x ∘ h.lift (ix1 i)) = Finset.univ.fold max ⊥ (row x i)
  rw [Consts.bits_bot]
  exact congrArg (Finset.univ.fold max ⊥) (funext fun c => congrArg x (lift_ix1 h i c))

/-- A column spread over its row. -/
theorem spread_row {α : Type} (hM : M ≠ 1) (x : (⟨2, ![M, 1]⟩ : Shape).Idx → α) (h : (⟨2, ![M, 1]⟩ : Shape).Broadcasts ⟨2, ![M, N]⟩)
    (i : Fin M) (c : Fin N) : broadcastTo ⟨2, ![M, N]⟩ x h (ix2 i c) = x (ix2 i (0 : Fin 1)) :=
  broadcastTo_apply x h _ _ fun e => match e with
    | ⟨0, _⟩ => (if_neg hM).symm
    | ⟨1, _⟩ => (if_pos rfl).symm

theorem select_ofBool {α : Type} (p : Prop) [Decidable p] (a b : α) :
    Scalar.select (BitVec.ofBool (decide p)) a b = if p then a else b := by
  by_cases h : p <;> simp [Scalar.select, h]

/-- A comparison's bit as a number. -/
theorem indicator (p : Prop) [Decidable p] :
    ((((BitVec.ofBool (decide p)).setWidth 32).toInt : ℝ) : EReal) = if p then 1 else 0 := by
  by_cases h : p <;> simp [h]

theorem sum_indicator (s : Fin N → EReal) (x : EReal) :
    ∑ c : Fin N, (if x ≤ s c then (1 : EReal) else 0) = ((count s x : ℝ) : EReal) := by
  rw [Finset.sum_boole]
  rfl

open Cert.KernelIdeal Cert.KernelIdeal.Gen

variable (X : FVec Ideal S128x8192 .f32) (i : Fin 128)

/-- The bisection's state of row `i`, of the three columns the loop carries. -/
def Carries (acc : FVec Ideal S128x1 .f32 × FVec Ideal S128x1 .f32 × FVec Ideal S128x1 .f32) (a : State) : Prop :=
  acc.1 (ix2 i (0 : Fin 1)) = a.1 ∧ acc.2.1 (ix2 i (0 : Fin 1)) = a.2.1 ∧ acc.2.2 (ix2 i (0 : Fin 1)) = ((a.2.2 : ℝ) : EReal)

variable (lo hi chi : FVec Ideal S128x1 .f32) (a : State)

theorem pay7_apply (h : Carries i (lo, hi, chi) a) : k0_pay7 (F := Ideal) lo hi (ix2 i (0 : Fin 1)) = mid a := by
  show (lo (ix2 i (0 : Fin 1)) + hi (ix2 i (0 : Fin 1))) * Ideal.ofBits .f32 0x3F000000#32 = _
  rw [Consts.bits_half, mid]
  exact congrArg₂ (fun x y => (x + y) * ((1 / 2 : ℝ) : EReal)) h.1 h.2.1

theorem pay8_apply (h : Carries i (lo, hi, chi) a) :
    k0_pay8 (F := Ideal) lo hi X (ix2 i (0 : Fin 1)) = ((count (row X i) (mid a) : ℝ) : EReal) := by
  unfold k0_pay8
  refine (shapeCast_a_a1_apply _ _ i 0).trans ((sum_row (M := 128) (N := 8192) _ _ _ _ _ i).trans ?_)
  rw [← sum_indicator]
  refine Finset.sum_congr rfl fun c _ => ?_
  refine Eq.trans ?_ (indicator _)
  have hs : broadcastTo S128x8192 (k0_pay7 (F := Ideal) lo hi) broadcasts_S128x1_S128x8192 (ix2 i c) = mid a :=
    (spread_row (M := 128) (N := 8192) (by norm_num) _ _ i c).trans (pay7_apply i lo hi chi a h)
  show ((((BitVec.ofBool (decide (broadcastTo S128x8192 (k0_pay7 (F := Ideal) lo hi) broadcasts_S128x1_S128x8192 (ix2 i c) ≤ X (ix2 i c)))).setWidth 32).toInt : ℝ) : EReal) = _
  rw [hs]

theorem coe_le_coe_nat (m n : ℕ) : ((m : ℝ) : EReal) ≤ ((n : ℝ) : EReal) ↔ m ≤ n := by
  rw [EReal.coe_le_coe_iff, Nat.cast_le]

theorem pay9_apply (h : Carries i (lo, hi, chi) a) :
    k0_pay9 (F := Ideal) lo hi X (ix2 i (0 : Fin 1)) = BitVec.ofBool (decide (64 ≤ count (row X i) (mid a))) := by
  have h8 := pay8_apply X i lo hi chi a h
  unfold k0_pay9
  generalize k0_pay8 (F := Ideal) lo hi X = n at h8 ⊢
  show BitVec.ofBool (decide (Ideal.ofBits .f32 0x42800000#32 ≤ n (ix2 i (0 : Fin 1)))) = _
  rw [h8, Consts.bits_64]
  exact congrArg BitVec.ofBool (decide_eq_decide.mpr (coe_le_coe_nat 64 _))

/-- One trip of the loop is one bisection step of every row. -/
theorem step_carries (h : Carries i (lo, hi, chi) a) :
    Carries i (k0_pay10 (F := Ideal) lo hi X, k0_pay11 (F := Ideal) lo hi X, k0_pay12 (F := Ideal) lo hi chi X) (step (row X i) a) := by
  have h9 := pay9_apply X i lo hi chi a h
  have hlo : lo (ix2 i (0 : Fin 1)) = a.1 := h.1
  have hhi : hi (ix2 i (0 : Fin 1)) = a.2.1 := h.2.1
  have hchi : chi (ix2 i (0 : Fin 1)) = ((a.2.2 : ℝ) : EReal) := h.2.2
  have h8 := pay8_apply X i lo hi chi a h
  have h7 := pay7_apply i lo hi chi a h
  refine ⟨?_, ?_, ?_⟩ <;> dsimp only [k0_pay10, k0_pay11, k0_pay12] <;>
    generalize k0_pay9 (F := Ideal) lo hi X = p at h9 ⊢ <;> generalize k0_pay8 (F := Ideal) lo hi X = n at h8 ⊢ <;>
    generalize k0_pay7 (F := Ideal) lo hi = m at h7 ⊢
  · show Scalar.select (p (ix2 i (0 : Fin 1))) (m (ix2 i (0 : Fin 1))) (lo (ix2 i (0 : Fin 1))) = _
    rw [h9, select_ofBool, h7, hlo, step]
  · show Scalar.select (p (ix2 i (0 : Fin 1))) (hi (ix2 i (0 : Fin 1))) (m (ix2 i (0 : Fin 1))) = _
    rw [h9, select_ofBool, h7, hhi, step]
  · show Scalar.select (p (ix2 i (0 : Fin 1))) (chi (ix2 i (0 : Fin 1))) (n (ix2 i (0 : Fin 1))) = _
    rw [h9, select_ofBool, h8, hchi]
    unfold step
    by_cases hc : 64 ≤ count (row X i) (mid a) <;> simp only [hc, if_true, if_false]

/-! ## The descents and the mask -/

/-- One descent of every row. -/
def descV (cur : FVec Ideal S128x1 .f32) : FVec Ideal S128x1 .f32 :=
  shapeCast S128x1 (multiReduction .maximumf [1] S128
    (select (cmpf .olt X (broadcastTo S128x8192 cur broadcasts_S128x1_S128x8192)) X
      (broadcast S128x8192 (Scalar.ofBits (F := Ideal) .f32 0xFF61B1E6#32)))
    0xFF800000#32 reduces_S128x8192_S128 (.inl rfl) rfl) shapeCasts_S128_S128x1

theorem descV_apply (cur : FVec Ideal S128x1 .f32) :
    descV X cur (ix2 i (0 : Fin 1)) = below ((Consts.neg : ℝ) : EReal) (row X i) (cur (ix2 i (0 : Fin 1))) := by
  refine (shapeCast_a_a1_apply _ _ i 0).trans ((max_row (M := 128) (N := 8192) _ _ _ _ i).trans ?_)
  unfold below
  refine congrArg (Finset.univ.sup) (funext fun c => ?_)
  have hs : broadcastTo S128x8192 cur broadcasts_S128x1_S128x8192 (ix2 i c) = cur (ix2 i (0 : Fin 1)) :=
    spread_row (M := 128) (N := 8192) (by norm_num) _ _ i c
  show Scalar.select (BitVec.ofBool (decide (X (ix2 i c) < broadcastTo S128x8192 cur broadcasts_S128x1_S128x8192 (ix2 i c)))) (X (ix2 i c))
    (Ideal.ofBits .f32 0xFF61B1E6#32) = _
  rw [hs, select_ofBool, Consts.bits_neg]

theorem sub_eq (n k : ℕ) (hk : 1 ≤ k) : ((64 : ℝ) : EReal) - ((n : ℝ) : EReal) = ((k : ℝ) : EReal) ↔ 64 - n = k := by
  rw [← EReal.coe_sub, EReal.coe_eq_coe_iff, sub_eq_iff_eq_add]
  constructor
  · intro h
    have : 64 = k + n := by exact_mod_cast h
    omega
  · intro h
    have : 64 = k + n := by omega
    exact_mod_cast this

theorem lt_sub (n k : ℕ) : ((k : ℝ) : EReal) < ((64 : ℝ) : EReal) - ((n : ℝ) : EReal) ↔ k < 64 - n := by
  rw [← EReal.coe_sub, EReal.coe_lt_coe_iff, lt_sub_iff_add_lt]
  constructor
  · intro h
    have : k + n < 64 := by exact_mod_cast h
    omega
  · intro h
    have : k + n < 64 := by omega
    exact_mod_cast this

/-- The kernel's threshold column, from the loop's last state. -/
def thrV (hi chi : FVec Ideal S128x1 .f32) : FVec Ideal S128x1 .f32 :=
  let j := subf (broadcast S128x1 (Scalar.ofBits (F := Ideal) .f32 0x42800000#32)) chi
  let m1 := descV X hi
  let m2 := descV X m1
  let m3 := descV X m2
  let m4 := descV X m3
  let m5 := descV X m4
  select (cmpf .ogt j (broadcast S128x1 (Scalar.ofBits .f32 0x40A00000#32))) m5
    (select (cmpf .oeq j (broadcast S128x1 (Scalar.ofBits .f32 0x40A00000#32))) m5
      (select (cmpf .oeq j (broadcast S128x1 (Scalar.ofBits .f32 0x40800000#32))) m4
        (select (cmpf .oeq j (broadcast S128x1 (Scalar.ofBits .f32 0x40400000#32))) m3
          (select (cmpf .oeq j (broadcast S128x1 (Scalar.ofBits .f32 0x40000000#32))) m2
            (select (cmpf .oeq j (broadcast S128x1 (Scalar.ofBits .f32 0x3F800000#32))) m1
              (broadcast S128x1 (Scalar.ofBits .f32 0xFF61B1E6#32)))))))

theorem thrV_apply (h : Carries i (lo, hi, chi) a) :
    thrV X hi chi (ix2 i (0 : Fin 1)) = thrOf ((Consts.neg : ℝ) : EReal) (row X i) a := by
  have d1 : descV X hi (ix2 i (0 : Fin 1)) = desc ((Consts.neg : ℝ) : EReal) (row X i) a.2.1 1 :=
    (descV_apply X i hi).trans (congrArg (below _ _) h.2.1)
  have d2 := (descV_apply X i (descV X hi)).trans (congrArg (below _ _) d1)
  have d3 := (descV_apply X i (descV X (descV X hi))).trans (congrArg (below _ _) d2)
  have d4 := (descV_apply X i (descV X (descV X (descV X hi)))).trans (congrArg (below _ _) d3)
  have d5 := (descV_apply X i (descV X (descV X (descV X (descV X hi))))).trans (congrArg (below _ _) d4)
  have hc : chi (ix2 i (0 : Fin 1)) = ((a.2.2 : ℝ) : EReal) := h.2.2
  show Scalar.select (BitVec.ofBool (decide (Ideal.ofBits .f32 0x40A00000#32 < Ideal.ofBits .f32 0x42800000#32 - chi (ix2 i (0 : Fin 1)))))
      (descV X (descV X (descV X (descV X (descV X hi)))) (ix2 i (0 : Fin 1)))
    (Scalar.select (BitVec.ofBool (decide (Ideal.ofBits .f32 0x42800000#32 - chi (ix2 i (0 : Fin 1)) = Ideal.ofBits .f32 0x40A00000#32)))
        (descV X (descV X (descV X (descV X (descV X hi)))) (ix2 i (0 : Fin 1)))
      (Scalar.select (BitVec.ofBool (decide (Ideal.ofBits .f32 0x42800000#32 - chi (ix2 i (0 : Fin 1)) = Ideal.ofBits .f32 0x40800000#32)))
          (descV X (descV X (descV X (descV X hi))) (ix2 i (0 : Fin 1)))
        (Scalar.select (BitVec.ofBool (decide (Ideal.ofBits .f32 0x42800000#32 - chi (ix2 i (0 : Fin 1)) = Ideal.ofBits .f32 0x40400000#32)))
            (descV X (descV X (descV X hi)) (ix2 i (0 : Fin 1)))
          (Scalar.select (BitVec.ofBool (decide (Ideal.ofBits .f32 0x42800000#32 - chi (ix2 i (0 : Fin 1)) = Ideal.ofBits .f32 0x40000000#32)))
              (descV X (descV X hi) (ix2 i (0 : Fin 1)))
            (Scalar.select (BitVec.ofBool (decide (Ideal.ofBits .f32 0x42800000#32 - chi (ix2 i (0 : Fin 1)) = Ideal.ofBits .f32 0x3F800000#32)))
              (descV X hi (ix2 i (0 : Fin 1))) (Ideal.ofBits .f32 0xFF61B1E6#32)))))) = _
  rw [d1, d2, d3, d4, d5, hc, Consts.bits_64, Consts.bits_five, Consts.bits_four, Consts.bits_three, Consts.bits_two, Consts.bits_one,
    Consts.bits_neg]
  simp only [select_ofBool]
  unfold thrOf
  have e5 : ((64 : ℝ) : EReal) - ((a.2.2 : ℝ) : EReal) = ((5 : ℝ) : EReal) ↔ 64 - a.2.2 = 5 := by
    simpa only [Nat.cast_ofNat, Nat.cast_one] using sub_eq a.2.2 5 (by norm_num)
  have e4 : ((64 : ℝ) : EReal) - ((a.2.2 : ℝ) : EReal) = ((4 : ℝ) : EReal) ↔ 64 - a.2.2 = 4 := by
    simpa only [Nat.cast_ofNat, Nat.cast_one] using sub_eq a.2.2 4 (by norm_num)
  have e3 : ((64 : ℝ) : EReal) - ((a.2.2 : ℝ) : EReal) = ((3 : ℝ) : EReal) ↔ 64 - a.2.2 = 3 := by
    simpa only [Nat.cast_ofNat, Nat.cast_one] using sub_eq a.2.2 3 (by norm_num)
  have e2 : ((64 : ℝ) : EReal) - ((a.2.2 : ℝ) : EReal) = ((2 : ℝ) : EReal) ↔ 64 - a.2.2 = 2 := by
    simpa only [Nat.cast_ofNat, Nat.cast_one] using sub_eq a.2.2 2 (by norm_num)
  have e1 : ((64 : ℝ) : EReal) - ((a.2.2 : ℝ) : EReal) = ((1 : ℝ) : EReal) ↔ 64 - a.2.2 = 1 := by
    simpa only [Nat.cast_ofNat, Nat.cast_one] using sub_eq a.2.2 1 (by norm_num)
  have l5 : ((5 : ℝ) : EReal) < ((64 : ℝ) : EReal) - ((a.2.2 : ℝ) : EReal) ↔ 5 < 64 - a.2.2 := by
    simpa only [Nat.cast_ofNat] using lt_sub a.2.2 5
  simp only [e5, e4, e3, e2, e1, l5]
  rfl

/-- What the kernel stores, from the score block and the loop's last state. -/
theorem out_apply (h : Carries i (lo, hi, chi) a) (c : Fin 8192) :
    k0_pay1 (k0_pay17 (F := Ideal) X (k0_pay13 chi) (k0_pay14 (F := Ideal)) (k0_pay15 hi X) (k0_pay16 chi)) (k0_pay18 X) (k0_pay19 (F := Ideal)) (ix2 i c)
      = if thrOf ((Consts.neg : ℝ) : EReal) (row X i) a ≤ X (ix2 i c) then max (X (ix2 i c)) 0 else 0 := by
  have hs : broadcastTo S128x8192 (thrV X hi chi) broadcasts_S128x1_S128x8192 (ix2 i c) = thrOf ((Consts.neg : ℝ) : EReal) (row X i) a :=
    (spread_row (M := 128) (N := 8192) (by norm_num) _ _ i c).trans (thrV_apply X i lo hi chi a h)
  show Scalar.select (BitVec.ofBool (decide (broadcastTo S128x8192 (thrV X hi chi) broadcasts_S128x1_S128x8192 (ix2 i c) ≤ X (ix2 i c))))
    (max (X (ix2 i c)) (Ideal.ofBits .f32 0x00000000#32)) (Ideal.ofBits .f32 0x00000000#32) = _
  rw [hs, select_ofBool, Consts.bits_zero]

end Cert.Rows

end
-- ==== Proof.TopK.lean ====
/-
  THE HOST'S TOP-K OF ONE ROW. `order s` is the permutation that puts a row of extended reals in descending order (the stable
  one the host's sort uses); `topK_val`, `topK_idx`: rank `r` of a row of `Host.topK`'s two results is the score of that rank
  and its column, whatever the number of ranks kept.
-/
module

public import Idealize.ShloMosaic.PureOps.Ideal
public import Idealize.ShloMosaic.Lib.SortFacts
public import Idealize.ShloMosaic.Lib.ValueIdx

@[expose] public section

noncomputable section

namespace Cert.TopK

open Idealize.ShloMosaic Idealize.ShloMosaic.ValueIdx

/-- The stable descending order of a row: rank to column. -/
def order {N : ℕ} (s : Fin N → EReal) : Equiv.Perm (Fin N) :=
  Equiv.ofBijective (sortedFrom fun a b => decide (s b < s a)) ⟨sortedFrom_injective _, sortedFrom_surjective _⟩

theorem order_apply {N : ℕ} (s : Fin N → EReal) (r : Fin N) : order s r = sortedFrom (fun a b => decide (s b < s a)) r := rfl

/-- In that order the scores descend. -/
theorem antitone_order {N : ℕ} (s : Fin N → EReal) : Antitone (s ∘ order s) := by
  intro a b hab
  rcases eq_or_lt_of_le hab with rfl | hlt
  · exact le_refl _
  · have := sortedFrom_noInversion (fun a b : Fin N => decide (s b < s a)) (fun a b : Fin N => decide (s b < s a))
      (fun a b h => decide_eq_false (not_lt.mpr (of_decide_eq_true h).le)) (fun a b h => h)
      (fun a b c h1 h2 => decide_eq_false (not_lt.mpr
        ((not_lt.mp (of_decide_eq_false h1)).trans (not_lt.mp (of_decide_eq_false h2))))) a b hlt
    exact not_lt.mp (of_decide_eq_false this)

variable {T N K : ℕ}

/-- A place along a row. -/
theorem along_ix2 (i : Fin T) (c : Fin N) (k : Fin N) :
    Shape.Idx.along (s := ⟨2, ![T, N]⟩) (ix2 i c) (1 : Fin 2) k = ix2 i k := by
  funext a
  fin_cases a
  · rfl
  · rfl

/-- The first `K` places of a row, read. -/
theorem slice_ix2 {α : Type} (h : (⟨2, ![T, N]⟩ : Shape).Slices (fun _ => 0) ⟨2, ![T, K]⟩) (hK : K ≤ N)
    (x : (⟨2, ![T, N]⟩ : Shape).Idx → α) (i : Fin T) (r : Fin K) :
    extractStridedSlice ⟨2, ![T, K]⟩ (fun _ => 0) x h (ix2 i r) = x (ix2 i (r.castLE hK)) := by
  unfold extractStridedSlice
  congr 1
  funext a
  fin_cases a
  · exact Fin.ext (Nat.zero_add _)
  · exact Fin.ext (Nat.zero_add _)

/-- The comparator of the sort decides "greater". -/
theorem gt_beq (a b : EReal) : (FloatOps.cmpfTotal (F := Ideal) (φ := .f32) .gt a b == 1#1) = decide (b < a) := by
  show (BitVec.ofBool (decide (b < a)) == 1#1) = decide (b < a)
  by_cases h : b < a <;> simp [h]

/-- The host's order of row `i` is the row's descending order. -/
theorem sorted_eq (x : FVec Ideal ⟨2, ![T, N]⟩ .f32) (i : Fin T) (c : Fin N) (r : Fin N) :
    sortedFrom (fun k k' : Fin N => FloatOps.cmpfTotal (F := Ideal) (φ := .f32) .gt
        (x (Shape.Idx.along (s := ⟨2, ![T, N]⟩) (ix2 i c) (1 : Fin 2) k))
        (x (Shape.Idx.along (s := ⟨2, ![T, N]⟩) (ix2 i c) (1 : Fin 2) k')) == 1#1) r
      = order (fun c => x (ix2 i c)) r := by
  rw [order_apply]
  refine congrFun (congrArg sortedFrom (funext fun a => funext fun b => ?_)) _
  exact (gt_beq _ _).trans (by rw [along_ix2, along_ix2])

/-- Rank `r` of a row's values: the score of that rank. -/
theorem topK_val (h : (⟨2, ![T, N]⟩ : Shape).Slices (fun _ => 0) ⟨2, ![T, K]⟩) (hK : K ≤ N)
    (x : FVec Ideal ⟨2, ![T, N]⟩ .f32) (i : Fin T) (r : Fin K) :
    (Host.topK ⟨2, ![T, K]⟩ 1 (FloatOps.cmpfTotal .gt) x h).1 (ix2 i r)
      = x (ix2 i (order (fun c => x (ix2 i c)) (r.castLE hK))) := by
  dsimp only [Host.topK]
  exact (slice_ix2 h hK _ i r).trans (congrArg x ((along_ix2 i (r.castLE hK) _).trans
    (congrArg (ix2 i) (sorted_eq x i (r.castLE hK) (r.castLE hK)))))

/-- Rank `r` of a row's indices: that score's column. -/
theorem topK_idx (h : (⟨2, ![T, N]⟩ : Shape).Slices (fun _ => 0) ⟨2, ![T, K]⟩) (hK : K ≤ N)
    (x : FVec Ideal ⟨2, ![T, N]⟩ .f32) (i : Fin T) (r : Fin K) :
    (Host.topK ⟨2, ![T, K]⟩ 1 (FloatOps.cmpfTotal .gt) x h).2 (ix2 i r)
      = BitVec.ofNat 32 (order (fun c => x (ix2 i c)) (r.castLE hK)).val := by
  dsimp only [Host.topK]
  exact (slice_ix2 h hK _ i r).trans (congrArg (fun j : (⟨2, ![T, N]⟩ : Shape).Idx => BitVec.ofNat 32 (j (1 : Fin 2)).val)
    ((along_ix2 i (r.castLE hK) _).trans (congrArg (ix2 i) (sorted_eq x i (r.castLE hK) (r.castLE hK)))))

end Cert.TopK

end
-- ==== Proof.Precondition.lean ====
/-
  THE PRECONDITION, READ. Where the printed predicate is true everywhere, every row of scores, put in descending order, is
  `Cert.Threshold.Separated`.
-/
module

public import proofs.«01_k».proof.Proof.Gen.Pre_separated
public import proofs.«01_k».proof.Proof.TopK
public import proofs.«01_k».proof.Proof.Threshold
public import proofs.«01_k».proof.Proof.Consts
public import Idealize.ShloMosaic.Lib.Routing.OpsSearch
public import Idealize.ShloMosaic.Lib.IdealHost

@[expose] public section

noncomputable section

namespace Cert.Precondition

open Idealize.ShloMosaic Idealize.ShloMosaic.ValueIdx Cert.TopK Cert.Threshold
open Cert.Pre_separated Cert.Pre_separated.Gen

/-- The largest of the 64th value and zero, one per row. -/
def base (v : FVec Ideal S4096x65 .f32) : FVec Ideal S4096x1 .f32 :=
  maximumf (extractStridedSlice S4096x1 ![0, 63] v slices_S4096x65_S4096x1_0_63)
    (broadcastInDim S4096x1 ![] bcast_S_S4096x1 (constant S_ .f32 0x00000000#32))

/-- A bisection cell's width, one per row. -/
def cell (v : FVec Ideal S4096x65 .f32) : FVec Ideal S4096x1 .f32 :=
  Host.divf (addf (extractStridedSlice S4096x1 ![0, 0] v slices_S4096x65_S4096x1_0_0)
      (broadcastInDim S4096x1 ![] bcast_S_S4096x1 (constant S_ .f32 0x358637BD#32)))
    (broadcastInDim S4096x1 ![] bcast_S_S4096x1 (constant S_ .f32 0x45000000#32))

/-- A value's distance above the 64th reaches a bisection cell, over a table of values in descending rows. -/
def far (v : FVec Ideal S4096x65 .f32) : IVec S4096x65 1 :=
  cmpf .oge (subf v (broadcastInDim S4096x65 ![0, 1] bcast_S4096x1_S4096x65_0_1 (base v)))
    (broadcastInDim S4096x65 ![0, 1] bcast_S4096x1_S4096x65_0_1 (cell v))

/-- The predicate's operations from the values' table on. -/
def sep (v : FVec Ideal S4096x65 .f32) : IVec S4096x59 1 :=
  fn_part1 (F := Ideal) v (extractStridedSlice S4096x1 ![0, 63] v slices_S4096x65_S4096x1_0_63) (far v)

/-- A table's 65 largest per row. -/
abbrev top (s : FVec Ideal S4096x8192 .f32) : FVec Ideal S4096x65 .f32 :=
  (Host.topK S4096x65 1 (FloatOps.cmpfTotal .gt) s sliceFits_S4096x8192_S4096x65).1

/-- The predicate's score table, as printed. -/
def scores (x : FVec Ideal S4096x1024 .f32) (W : FVec Ideal S8192x1024 .f32) : FVec Ideal S4096x8192 .f32 :=
  Host.dotGeneral dot_S4096x1024_S1024x8192_S4096x8192_1_0_0_1_n_n none
    (Host.divf x (broadcastInDim S4096x1024 ![0, 1] bcast_S4096x1_S4096x1024_0_1
      (fn_clip (fn_norm x) (constant S_ .f32 0x2B8CBCCC#32))))
    (transpose S1024x8192 [1, 0] W transposes_S8192x1024_S1024x8192_1_0)

theorem fn_eq (x : FVec Ideal S4096x1024 .f32) (W : FVec Ideal S8192x1024 .f32) :
    Cert.Pre_separated.fn (F := Ideal) x W = sep (top (scores x W)) := rfl

theorem and_eq_one (a b : BitVec 1) : a &&& b = 1#1 ↔ a = 1#1 ∧ b = 1#1 := by revert a b; decide
theorem or_eq_one (a b : BitVec 1) : a ||| b = 1#1 ↔ a = 1#1 ∨ b = 1#1 := by revert a b; decide
theorem ofBool_eq_one (p : Prop) [Decidable p] : BitVec.ofBool (decide p) = 1#1 ↔ p := by
  by_cases h : p <;> simp [h]

/-- A window of columns of a row, read. -/
theorem slice_cols {α : Type} {T N K o : ℕ} (h : (⟨2, ![T, N]⟩ : Shape).Slices ![0, o] ⟨2, ![T, K]⟩)
    (x : (⟨2, ![T, N]⟩ : Shape).Idx → α) (i : Fin T) (r : Fin K) (q : Fin N) (hq : q.val = o + r.val) :
    extractStridedSlice ⟨2, ![T, K]⟩ ![0, o] x h (ix2 i r) = x (ix2 i q) := by
  unfold extractStridedSlice
  congr 1
  funext a
  fin_cases a
  · exact Fin.ext (Nat.zero_add _)
  · exact Fin.ext hq.symm

/-- A column spread over a row, read. -/
theorem spread_col {α : Type} {T N : ℕ} (hT : T ≠ 1)
    (h : (⟨2, ![T, 1]⟩ : Shape).BroadcastsInDim ⟨2, ![T, N]⟩ (![0, 1] : Fin 2 → Fin 2))
    (x : (⟨2, ![T, 1]⟩ : Shape).Idx → α) (i : Fin T) (r : Fin N) :
    broadcastInDim ⟨2, ![T, N]⟩ ![0, 1] h x (ix2 i r) = x (ix2 i (0 : Fin 1)) :=
  broadcastInDim_apply _ h x _ _ fun e => match e with
    | ⟨0, _⟩ => (if_neg hT).symm
    | ⟨1, _⟩ => (if_pos rfl).symm

theorem spread_zero (T : Shape) (hb : S_.BroadcastsInDim T ![]) (j : T.Idx) :
    broadcastInDim T ![] hb (constant (F := Ideal) S_ .f32 0x00000000#32) j = (0 : EReal) :=
  (broadcastInDim_scalar_apply hb _ j).trans Consts.bits_zero

variable (v : FVec Ideal S4096x65 .f32) (u : Fin 8192 → EReal) (i : Fin 4096)

theorem last_apply (hv : ∀ r : Fin 65, v (ix2 i r) = u (r.castLE (by norm_num))) :
    extractStridedSlice S4096x1 ![0, 63] v slices_S4096x65_S4096x1_0_63 (ix2 i (0 : Fin 1)) = u ⟨63, by norm_num⟩ :=
  (slice_cols (T := 4096) (N := 65) (K := 1) _ _ i 0 ⟨63, by norm_num⟩ rfl).trans (hv _)

theorem far_apply (hv : ∀ r : Fin 65, v (ix2 i r) = u (r.castLE (by norm_num))) (r : Fin 65) :
    far v (ix2 i r) = 1#1 ↔ Far ((Consts.eps : ℝ) : EReal) (by norm_num : 64 < 8192) u (r.castLE (by norm_num)) := by
  have h0 : extractStridedSlice S4096x1 ![0, 0] v slices_S4096x65_S4096x1_0_0 (ix2 i (0 : Fin 1)) = u ⟨0, by norm_num⟩ :=
    (slice_cols (T := 4096) (N := 65) (K := 1) _ _ i 0 ⟨0, by norm_num⟩ rfl).trans (hv _)
  have hd : ∀ x : EReal, Ideal.div x (Ideal.ofBits .f32 0x45000000#32) = x * ((1 / 2048 : ℝ) : EReal) := fun x => by
    rw [Consts.bits_2048, Ideal.div_coe (by norm_num)]
  have hc : cell v (ix2 i (0 : Fin 1)) = (u ⟨0, by norm_num⟩ + ((Consts.eps : ℝ) : EReal)) * ((1 / 2048 : ℝ) : EReal) := by
    refine Eq.trans ?_ (hd _)
    show Ideal.div (extractStridedSlice S4096x1 ![0, 0] v slices_S4096x65_S4096x1_0_0 (ix2 i (0 : Fin 1))
        + broadcastInDim S4096x1 ![] bcast_S_S4096x1 (constant (F := Ideal) S_ .f32 0x358637BD#32) (ix2 i (0 : Fin 1)))
      (broadcastInDim S4096x1 ![] bcast_S_S4096x1 (constant (F := Ideal) S_ .f32 0x45000000#32) (ix2 i (0 : Fin 1))) = _
    rw [h0, broadcastInDim_scalar_apply, broadcastInDim_scalar_apply]
    exact congrArg (fun e => Ideal.div (_ + e) _) Consts.bits_eps
  have hb : base v (ix2 i (0 : Fin 1)) = max (u ⟨63, by norm_num⟩) 0 := congrArg₂ max (last_apply v u i hv) (spread_zero _ _ _)
  show BitVec.ofBool (decide (broadcastInDim S4096x65 ![0, 1] bcast_S4096x1_S4096x65_0_1 (cell v) (ix2 i r)
    ≤ v (ix2 i r) - broadcastInDim S4096x65 ![0, 1] bcast_S4096x1_S4096x65_0_1 (base v) (ix2 i r))) = 1#1 ↔ _
  rw [ofBool_eq_one, hv, spread_col (T := 4096) (N := 65) (by norm_num), spread_col (T := 4096) (N := 65) (by norm_num), hc, hb]
  rfl

theorem separated_of_sep (h : sep v = fun _ => 1#1) (hv : ∀ r : Fin 65, v (ix2 i r) = u (r.castLE (by norm_num))) :
    Separated ((Consts.eps : ℝ) : EReal) (by norm_num : 64 < 8192) u := by
  intro k
  have hk : ((extractStridedSlice S4096x59 ![0, 0] (far v) slices_S4096x65_S4096x59_0_0 (ix2 i k)
        ||| BitVec.ofBool (decide (extractStridedSlice S4096x59 ![0, 5] v slices_S4096x65_S4096x59_0_5 (ix2 i k)
          ≤ broadcastInDim S4096x59 ![] bcast_S_S4096x59 (constant (F := Ideal) S_ .f32 0x00000000#32) (ix2 i k))))
      &&& ((BitVec.ofBool (decide (extractStridedSlice S4096x59 ![0, 6] v slices_S4096x65_S4096x59_0_6 (ix2 i k)
            < extractStridedSlice S4096x59 ![0, 5] v slices_S4096x65_S4096x59_0_5 (ix2 i k)))
          ||| extractStridedSlice S4096x59 ![0, 5] (far v) slices_S4096x65_S4096x59_0_5 (ix2 i k))
        ||| broadcastInDim S4096x59 ![0, 1] bcast_S4096x1_S4096x59_0_1
          (cmpf (F := Ideal) .ole (extractStridedSlice S4096x1 ![0, 63] v slices_S4096x65_S4096x1_0_63)
            (broadcastInDim S4096x1 ![] bcast_S_S4096x1 (constant S_ .f32 0x00000000#32))) (ix2 i k))) = 1#1 := congrFun h (ix2 i k)
  have e0 : ∀ {α : Type} (x : S4096x65.Idx → α), extractStridedSlice S4096x59 ![0, 0] x slices_S4096x65_S4096x59_0_0 (ix2 i k)
      = x (ix2 i ⟨k.val, by omega⟩) := fun x => slice_cols (T := 4096) (N := 65) (K := 59) _ x i k ⟨k.val, by omega⟩ (Nat.zero_add _).symm
  have e5 : ∀ {α : Type} (x : S4096x65.Idx → α), extractStridedSlice S4096x59 ![0, 5] x slices_S4096x65_S4096x59_0_5 (ix2 i k)
      = x (ix2 i ⟨k.val + 5, by omega⟩) := fun x => slice_cols (T := 4096) (N := 65) (K := 59) _ x i k ⟨k.val + 5, by omega⟩ (Nat.add_comm _ _)
  have e6 : ∀ {α : Type} (x : S4096x65.Idx → α), extractStridedSlice S4096x59 ![0, 6] x slices_S4096x65_S4096x59_0_6 (ix2 i k)
      = x (ix2 i ⟨k.val + 6, by omega⟩) := fun x => slice_cols (T := 4096) (N := 65) (K := 59) _ x i k ⟨k.val + 6, by omega⟩ (Nat.add_comm _ _)
  rw [e0, e5, e5, e6, spread_zero, spread_col (T := 4096) (N := 59) (by norm_num), and_eq_one, or_eq_one, or_eq_one, or_eq_one,
    ofBool_eq_one, ofBool_eq_one, far_apply v u i hv, far_apply v u i hv, hv, hv] at hk
  refine ⟨hk.1, ?_⟩
  rcases hk.2 with (h1 | h1) | h1
  · exact Or.inl h1
  · exact Or.inr (Or.inl h1)
  · refine Or.inr (Or.inr ?_)
    have h2 : BitVec.ofBool (decide (extractStridedSlice S4096x1 ![0, 63] v slices_S4096x65_S4096x1_0_63 (ix2 i (0 : Fin 1))
      ≤ broadcastInDim S4096x1 ![] bcast_S_S4096x1 (constant (F := Ideal) S_ .f32 0x00000000#32) (ix2 i (0 : Fin 1)))) = 1#1 := h1
    rw [ofBool_eq_one, spread_zero, last_apply v u i hv] at h2
    exact h2

/-- Where the printed predicate holds, every row of the score table is separated. -/
theorem separated_of_pre (x : FVec Ideal S4096x1024 .f32) (W : FVec Ideal S8192x1024 .f32)
    (h : Cert.Pre_separated.fn (F := Ideal) x W = fun _ => 1#1) (i : Fin 4096) :
    Separated ((Consts.eps : ℝ) : EReal) (by norm_num : 64 < 8192)
      ((fun c => scores x W (ix2 i c)) ∘ order fun c => scores x W (ix2 i c)) :=
  separated_of_sep (top (scores x W)) _ i ((fn_eq x W).symm.trans h) fun r =>
    topK_val (T := 4096) (N := 8192) (K := 65) sliceFits_S4096x8192_S4096x65 (by norm_num) (scores x W) i r

end Cert.Precondition

end
-- ==== Proof.Scores.lean ====
/-
  THE SCORES. The kernel normalises a row by the reciprocal root of the larger of its sum of squares and the named constant;
  the reference divides by the larger of the root and the constant's root. The two agree on every row, whatever it holds; so a
  block of the kernel's scores is the block of the reference's.
-/
module

public import proofs.«01_k».proof.Proof.Rows
public import proofs.«01_k».proof.Proof.Precondition
public import Idealize.ShloMosaic.Lib.StackMember
public import Idealize.ShloMosaic.Lib.IdealHost
public import Idealize.ShloMosaic.Lib.Pipeline.Value

@[expose] public section

noncomputable section

namespace Cert.Scores

open Idealize.ShloMosaic Idealize.ShloMosaic.ValueIdx

/-- The two normalisations of one entry agree, whatever the sum of squares. -/
theorem normalise (x q : EReal) (hq : 0 ≤ q) {c : ℝ} (hc : 0 < c) :
    x * Ideal.rsqrt (max q ((c ^ 2 : ℝ) : EReal)) = Ideal.div x (max ((c : ℝ) : EReal) (Ideal.sqrt q)) := by
  induction q with
  | bot => exact absurd hq (by simp)
  | top =>
    rw [max_eq_left le_top, Ideal.rsqrt_top, Ideal.sqrt_top, max_eq_right le_top, Ideal.div, if_neg EReal.top_ne_zero, EReal.inv_top]
  | coe r =>
    have hr : 0 ≤ r := by exact_mod_cast hq
    have hm : 0 < max r (c ^ 2) := lt_max_of_lt_right (by positivity)
    have hs : √(max r (c ^ 2)) = max c √r := by
      rw [Real.sqrt_monotone.map_max, Real.sqrt_sq hc.le, max_comm]
    have hp : 0 < max c √r := lt_max_of_lt_left hc
    have e1 : max ((r : ℝ) : EReal) ((c ^ 2 : ℝ) : EReal) = ((max r (c ^ 2) : ℝ) : EReal) :=
      (EReal.coe_strictMono.monotone.map_max).symm
    have e2 : max ((c : ℝ) : EReal) ((√r : ℝ) : EReal) = ((max c √r : ℝ) : EReal) :=
      (EReal.coe_strictMono.monotone.map_max).symm
    rw [e1, Ideal.rsqrt_coe, if_neg (not_lt.mpr hm.le), if_neg hm.ne', hs, Ideal.sqrt_coe, if_neg (not_lt.mpr hr), e2,
      Ideal.div_coe hp.ne', one_div]

theorem square_nonneg (x : EReal) : 0 ≤ x * x := by
  induction x with
  | bot => simp
  | top => simp
  | coe r => rw [← EReal.coe_mul]; exact_mod_cast mul_self_nonneg r

/-- The sum of a row's squares. -/
def squares {M N : ℕ} (x : (⟨2, ![M, N]⟩ : Shape).Idx → EReal) (i : Fin M) : EReal := ∑ k : Fin N, x (ix2 i k) * x (ix2 i k)

theorem squares_nonneg {M N : ℕ} (x : (⟨2, ![M, N]⟩ : Shape).Idx → EReal) (i : Fin M) : 0 ≤ squares x i :=
  Finset.sum_nonneg fun _ _ => square_nonneg _

/-- One score: the normalised row against a row of the weights. -/
def score (x : Fin 1024 → EReal) (w : Fin 1024 → EReal) : EReal :=
  ∑ k, Ideal.div (x k) (max ((Consts.floor : ℝ) : EReal) (Ideal.sqrt (∑ k, x k * x k))) * w k

section Reference

open Cert.Pre_separated Cert.Pre_separated.Gen

theorem reduces : S4096x1024.Reduces [1] S4096 := by decide

theorem fn_norm_apply (x : FVec Ideal S4096x1024 .f32) (i : Fin 4096) :
    fn_norm x (ix2 i (0 : Fin 1)) = Ideal.sqrt (squares x i) := by
  have hb : broadcastInDim S4096x1 ![0] bcast_S4096_S4096x1_0
      (Host.reduceAdd (mulf x x) (constant S_ .f32 0x00000000#32) reducesTo_S4096x1024_S4096_d1 h_S_) (ix2 i (0 : Fin 1))
      = squares x i := by
    refine (broadcastInDim_apply _ _ _ _ (ix1 i) fun a => ?_).trans ?_
    · match a with
      | ⟨0, _⟩ => exact (if_neg (by norm_num)).symm
    · rw [hostReduceAdd_apply]
      refine (Ideal.hostReduceAdd_single _ reduces _ _ _).trans ?_
      show Ideal.ofBits .f32 0x00000000#32 + _ = _
      rw [Consts.bits_zero, zero_add]
      refine Finset.sum_congr rfl fun k _ => ?_
      exact congrArg (fun j => x j * x j) (Rows.lift_ix1 _ i k)
  exact congrArg Ideal.sqrt hb

/-- The reference's scores, entry by entry. -/
theorem scores_apply (x : FVec Ideal S4096x1024 .f32) (W : FVec Ideal S8192x1024 .f32) (i : Fin 4096) (c : Fin 8192) :
    Precondition.scores x W (ix2 i c) = score (fun k => x (ix2 i k)) fun k => W (ix2 c k) := by
  refine (StackMember.dotGeneral_plain_apply (m := 4096) (k := 1024) (n := 8192) none _ _ i c).trans (Finset.sum_congr rfl fun k _ => ?_)
  refine congrArg₂ (· * ·) ?_ ?_
  · refine congrArg (Ideal.div (x (ix2 i k))) ?_
    refine (broadcastInDim_apply _ _ _ _ (ix2 i (0 : Fin 1)) fun a => ?_).trans ?_
    · match a with
      | ⟨0, _⟩ => exact (if_neg (by norm_num)).symm
      | ⟨1, _⟩ => exact (if_pos rfl).symm
    · refine congrArg₂ max ?_ (fn_norm_apply x i)
      exact (broadcastInDim_scalar_apply _ _ _).trans Consts.bits_floor
  · refine transpose_apply _ _ _ _ _ fun b => ?_
    match b with
    | ⟨0, _⟩ => rfl
    | ⟨1, _⟩ => rfl

end Reference

section Kernel

open Cert.KernelIdeal Cert.KernelIdeal.Gen

/-- The kernel's scores of a block, entry by entry. -/
theorem pay2_apply (v0 : FVec Ideal S128x1024 .f32) (v9 : FVec Ideal S1024x8192 .f32) (r : Fin 128) (c : Fin 8192) :
    k0_pay2 (F := Ideal) v0 v9 (ix2 r c) = score (fun k => v0 (ix2 r k)) fun k => v9 (ix2 k c) := by
  unfold k0_pay2
  refine (Ideal.matmul_plain_apply (M := 128) (K := 1024) (N := 8192) none _ _ _ r c).trans ?_
  show Ideal.ofBits .f32 0x00000000#32 + _ = _
  rw [Consts.bits_zero, zero_add]
  refine Finset.sum_congr rfl fun k _ => congrArg₂ (· * ·) ?_ (congrFun (shapeCast_self v9 _) (ix2 k c))
  refine Eq.trans ?_ (normalise (v0 (ix2 r k)) (squares v0 r) (squares_nonneg v0 r) Consts.floor_pos)
  refine congrArg (v0 (ix2 r k) * ·) ?_
  refine (Rows.spread_row (M := 128) (N := 1024) (by norm_num) _ _ r k).trans (congrArg Ideal.rsqrt ?_)
  refine congrArg₂ max ?_ ((IdealRules.named_const.ideal_named_scalar _ _ _ _ rfl).trans Consts.floor_sq)
  exact (shapeCast_a_a1_apply _ _ r 0).trans (Rows.sum_row (M := 128) (N := 1024) _ _ _ _ _ r)

end Kernel

end Cert.Scores

end
-- ==== Proof.Block.lean ====
/-
  ONE BLOCK. What the kernel's body leaves in its output block, entry by entry: the scores go to scratch, the loop bisects every
  row once per trip, and the stored mask keeps an entry at or above its row's threshold.
-/
module

public import proofs.«01_k».proof.Proof.Gen.KernelIdeal.Value
public import proofs.«01_k».proof.Proof.Scores
public import Idealize.ShloMosaic.Lib.Pipeline.Value
public import Idealize.ShloMosaic.Lib.VecWindow
public import Idealize.ShloMosaic.Lib.Pipeline.ValueKit.Tiles

@[expose] public section

noncomputable section

namespace Cert.Block

open Idealize.ShloMosaic Idealize.ShloMosaic.TcCoe Idealize.ShloMosaic.ValueIdx
open Cert.KernelIdeal Cert.KernelIdeal.Gen

theorem hz : (![0, 0] : Fin 2 → Nat) = fun _ => 0 := funext fun a => by fin_cases a <;> rfl

variable (c : Dev nD) (i : grid0.Coords) (arg1 : Memref sig .tc .vmem S128x1024 .f32) (harg1 : arg1.IsWhole)
  (arg2 : Memref sig .tc .vmem S1024x8192 .f32) (harg2 : arg2.IsWhole) (arg3 : Memref sig .tc .vmem S128x8192 .f32) (harg3 : arg3.IsWhole)
  (arg4 : Memref sig .tc .vmem S128x8192 .f32) (harg4 : arg4.IsWhole)

theorem trip_eq (bd : Option Variants.none.V) (X : BufTy.Contents (Elt Ideal) arg4.view.ty) (k : Fin k0_t1_loop.trips)
    (acc : FVec Ideal S128x1 .f32 × FVec Ideal S128x1 .f32 × FVec Ideal S128x1 .f32) :
    tripR_k0_t1 (F := Ideal) Variants.none c bd i arg1 harg1 arg2 harg2 arg3 harg3 arg4 harg4 X k acc
      = (k0_pay10 acc.1 acc.2.1 (arg4.view.read (Elt Ideal) X), k0_pay11 acc.1 acc.2.1 (arg4.view.read (Elt Ideal) X), k0_pay12 acc.1 acc.2.1 acc.2.2 (arg4.view.read (Elt Ideal) X)) := by
  unfold tripR_k0_t1 trip_k0_t1
  dsimp only
  simp only [View.readAt_eq_ld, View.ld_unit_zero (S := S128x8192) hz]

/-- The scratch holds the scores after the one store that fills it. -/
theorem read_stored (p : Vec Ideal S128x8192 .f32) :
    arg4.view.read (Elt Ideal) (arg4.view.writes (Elt Ideal) arg4.view.junk
      [⟨Rect.unit (s := S128x8192) ![0, 0] S128x8192.size inb_S128x8192_S128x8192_0_0, p⟩]) = p := by
  funext y
  have h := View.read_writes_cons_emb (v := arg4.view) (f := arg4.view.junk) (Val := Elt Ideal)
    (Rect.unit (s := S128x8192) ![0, 0] S128x8192.size inb_S128x8192_S128x8192_0_0) p [] y
  rwa [Rect.emb_unit_full] at h

/-- The loop's state: every row bisected once per trip. -/
theorem state_carries (X : BufTy.Contents (Elt Ideal) arg4.view.ty)
    (init : FVec Ideal S128x1 .f32 × FVec Ideal S128x1 .f32 × FVec Ideal S128x1 .f32) (r : Fin 128) (a : Threshold.State)
    (h0 : Rows.Carries r init a) (n : ℕ) (hn : n ≤ k0_t1_loop.trips) :
    Rows.Carries r (st_k0_t1 (F := Ideal) Variants.none c none i arg1 harg1 arg2 harg2 arg3 harg3 arg4 harg4 X init n)
      (Threshold.iter (Rows.row (M := 128) (N := 8192) (arg4.view.read (Elt Ideal) X) r) a n) := by
  induction n with
  | zero => rw [st_k0_t1_zero]; exact h0
  | succ n ih =>
    have h := ih (Nat.le_of_succ_le hn)
    rw [st_k0_t1_succ (F := Ideal) Variants.none c none i arg1 harg1 arg2 harg2 arg3 harg3 arg4 harg4 X init ⟨n, hn⟩, trip_eq]
    exact Rows.step_carries _ r _ _ _ _ h

theorem trips_eq : Scf.trips k0_t1_loop.lb k0_t1_loop.ub k0_t1_loop.st = 11 := by decide

/-- What the body leaves in the output block, entry by entry. -/
theorem out_apply (x0 : Vec Ideal S128x1024 .f32) (x1 : Vec Ideal S1024x8192 .f32) (r : Fin 128) (q : Fin 8192) :
    out0_A_2 (F := Ideal) c i arg1 harg1 arg2 harg2 arg3 harg3 arg4 harg4 x0 x1 (ix2 r q)
      = if Threshold.thr ((Consts.eps : ℝ) : EReal) ((Consts.neg : ℝ) : EReal) (Rows.row (M := 128) (N := 8192) (k0_pay2 (F := Ideal) x0 x1) r) ≤ k0_pay2 (F := Ideal) x0 x1 (ix2 r q)
        then max (k0_pay2 (F := Ideal) x0 x1 (ix2 r q)) 0 else 0 := by
  unfold out0_A_2
  rw [View.read_writes_eq_canon _ _ _ (cover0_A_2 c i arg1 harg1 arg2 harg2 arg3 harg3 arg4 harg4 x0 x1)]
  unfold kernelRun0_A
  dsimp only
  sl_unfold_words
  rw [View.canon_unit_zero hz]
  have e3 : k0_pay3 (F := Ideal) x0 x1 = k0_pay2 (F := Ideal) x0 x1 := shapeCast_self _ _
  simp only [View.readAt_eq_ld, harg1.read_unread, harg2.read_unread, View.ld_unit_zero (S := S128x1024) hz,
    View.ld_unit_zero (S := S1024x8192) hz, e3, View.readCov_unit_zero (S := S128x8192) _ hz, trips_eq]
  have h0 : Rows.Carries r (k0_pay5 (F := Ideal), k0_pay4 (F := Ideal) x0 x1, k0_pay6 (F := Ideal))
      (0, Finset.univ.sup (Rows.row (M := 128) (N := 8192) (k0_pay2 (F := Ideal) x0 x1) r) + ((Consts.eps : ℝ) : EReal), 0) := by
    refine ⟨Consts.bits_zero, ?_, Consts.bits_zero.trans (by simp)⟩
    unfold k0_pay4
    refine congrArg₂ (· + ·) ?_ Consts.bits_eps
    exact (shapeCast_a_a1_apply _ _ r 0).trans (Rows.max_row (M := 128) (N := 8192) _ _ _ _ r)
  have h := state_carries c i arg1 harg1 arg2 harg2 arg3 harg3 arg4 harg4
    (arg4.view.writes (Elt Ideal) arg4.view.junk
      [⟨Rect.unit (s := S128x8192) ![0, 0] S128x8192.size inb_S128x8192_S128x8192_0_0, k0_pay2 (F := Ideal) x0 x1⟩]) _ r _ h0 11 (by decide)
  rw [read_stored] at h
  exact Rows.out_apply _ r _ _ _ _ h q

end Cert.Block

end
-- ==== Proof.Reference.lean ====
/-
  WHAT THE REFERENCE LEAVES, OVER ANY TABLE OF SCORES. `topkRelu s` is the reference's last part as printed — the top-64 of
  every row, its values clipped at zero, scattered into zeros at their columns — as a function of the score table `s`;
  `topkRelu_order`: at the column of rank `r` of a row it holds that score's positive part when `r < 64`, and zero otherwise.
-/
module

public import proofs.«01_k».proof.Proof.Gen.ReferenceIdeal
public import proofs.«01_k».proof.Proof.TopK
public import Idealize.ShloMosaic.Lib.ScatterToDense.RefScatter
public import Idealize.ShloMosaic.Lib.ScatterToDense.Reading
public import Idealize.ShloMosaic.Lib.Routing.OpsSearch
public import Idealize.ShloMosaic.Lib.Pipeline.Value
public import Idealize.ShloMosaic.Lib.IdealHost

@[expose] public section

noncomputable section

namespace Cert.Reference

open Idealize.ShloMosaic Idealize.ShloMosaic.ValueIdx Idealize.ShloMosaic.Routing Cert.TopK

variable {T C K : ℕ}

/-- A scatter that sets, at the columns of a row's first `K` ranks, over a constant table: the rank's update there, the
    constant at the columns of the other ranks. -/
theorem scatter_order (hK : 0 < K) (hKC : K ≤ C) (d : ScatterDims (shape2 T C) (shape3 T K 2) (shape2 T K))
    (hiw : d.insertedWindowDims = [0, 1]) (hsd : d.scatterDimsToOperandDims = [0, 1]) (hivd : d.indexVectorDim = 2)
    (hT : T ≤ 2 ^ 31) (hC : C ≤ 2 ^ 31) (s : (shape2 T C).Idx → EReal) (x0 : (shape2 T C).Idx → EReal)
    (idx : IVec (shape3 T K 2) 32) (upd : (shape2 T K).Idx → EReal) (fill : EReal) (hx0 : ∀ ι, x0 ι = fill)
    (htok : ∀ (i : Fin T) (k : Fin K), idx (ix3 i k (0 : Fin 2)) = BitVec.ofNat 32 i.val)
    (hword : ∀ (i : Fin T) (k : Fin K), idx (ix3 i k (1 : Fin 2))
      = BitVec.ofNat 32 (order (fun c => s (ix2 i c)) (k.castLE hKC)).val) (i : Fin T) (r : Fin C) :
    Host.scatter d (fun _ b => b) x0 idx upd (ix2 i (order (fun c => s (ix2 i c)) r))
      = if h : r.val < K then upd (ix2 i ⟨r.val, h⟩) else fill := by
  have hname : ∀ k : Fin K, (order (fun c => s (ix2 i c)) r).val = (idx (ix3 i k (1 : Fin 2))).toNat ↔ r.val = k.val := by
    intro k
    rw [hword, BitVec.toNat_ofNat,
      Nat.mod_eq_of_lt (lt_of_lt_of_le (Fin.isLt _) (hC.trans (by norm_num))), ← Fin.ext_iff,
      (order fun c => s (ix2 i c)).injective.eq_iff, Fin.ext_iff]
    rfl
  rw [ScatterToDense.scatter_eq_dense hK d hiw hsd hivd hT hC x0 idx upd
    (fun z : (shape2 T K).Idx => idx (ix3 (z 0 : Fin T) (z 1 : Fin K) (1 : Fin 2))) upd fill hx0 htok
    (fun _ _ _ _ => Iff.rfl) (fun _ _ => rfl)]
  rcases ScatterToDense.dense_lastWinsU (C := C) hK
    (fun z : (shape2 T K).Idx => idx (ix3 (z 0 : Fin T) (z 1 : Fin K) (1 : Fin 2))) upd fill i
    (order (fun c => s (ix2 i c)) r) with ⟨t, ht, -, hv⟩ | ⟨hn, hv⟩
  · have e : r.val = t.val := (hname t).1 ht
    rw [dif_pos (e ▸ t.isLt)]
    refine hv.trans (congrArg (fun k => upd (ix2 i k)) (Fin.ext e.symm))
  · have hr : ¬ r.val < K := fun h => hn ⟨r.val, h⟩ ((hname ⟨r.val, h⟩).2 rfl)
    rw [dif_neg hr]
    exact hv

/-! ## The reference's last part -/

open Cert.ReferenceIdeal Cert.ReferenceIdeal.Gen

/-- The reference's operations from the score table on, as printed. -/
def topkRelu (s : FVec Ideal S4096x8192 .f32) : FVec Ideal S4096x8192 .f32 :=
  Host.scatter scatter_S4096x8192_S4096x64x2_S4096x64_n_01_01_2 (fun _ b => b)
    (broadcastInDim S4096x8192 ![] bcast_S_S4096x8192 (constant S_ .f32 0x00000000#32))
    (concatenate S4096x64x2 2
      [⟨S4096x64x1, (broadcastInDim S4096x64x1 ![0, 1] bcast_S4096x64_S4096x64x1_0_1
          (broadcastInDim S4096x64 ![0, 1] bcast_S4096x1_S4096x64_0_1
            (select (cmpi .slt (broadcastInDim S4096x1 ![0] bcast_S4096_S4096x1_0 (iotaInDim S4096 32 0))
                (broadcastInDim S4096x1 ![] bcast_S_S4096x1 (constantI S_ 32 0#32)))
              (addi (broadcastInDim S4096x1 ![0] bcast_S4096_S4096x1_0 (iotaInDim S4096 32 0))
                (broadcastInDim S4096x1 ![] bcast_S_S4096x1 (constantI S_ 32 4096#32)))
              (broadcastInDim S4096x1 ![0] bcast_S4096_S4096x1_0 (iotaInDim S4096 32 0)))))⟩,
       ⟨S4096x64x1, (broadcastInDim S4096x64x1 ![0, 1] bcast_S4096x64_S4096x64x1_0_1
          (select (cmpi .slt (Host.topK S4096x64 1 (FloatOps.cmpfTotal .gt) s sliceFits_S4096x8192_S4096x64).2
              (broadcastInDim S4096x64 ![] bcast_S_S4096x64 (constantI S_ 32 0#32)))
            (addi (Host.topK S4096x64 1 (FloatOps.cmpfTotal .gt) s sliceFits_S4096x8192_S4096x64).2
              (broadcastInDim S4096x64 ![] bcast_S_S4096x64 (constantI S_ 32 8192#32)))
            (Host.topK S4096x64 1 (FloatOps.cmpfTotal .gt) s sliceFits_S4096x8192_S4096x64).2))⟩]
      concatenates_S4096x64x1_S4096x64x1_S4096x64x2_d2)
    (maximumf (Host.topK S4096x64 1 (FloatOps.cmpfTotal .gt) s sliceFits_S4096x8192_S4096x64).1
      (broadcastInDim S4096x64 ![] bcast_S_S4096x64 (constant S_ .f32 0x00000000#32)))

theorem zero_bits : (FloatOps.ofBits (F := Ideal) .f32 0x00000000#32 : EReal) = 0 := by
  simp [Ideal.ofBits, Ideal.ieee]

/-- A number below `2³¹`, as a word, is not wrapped. -/
theorem wrap_ofNat (n : ℕ) (hn : n < 2 ^ 31) (b : BitVec 32) :
    Scalar.select (IntOp.cmpi .slt (BitVec.ofNat 32 n) 0#32) (BitVec.ofNat 32 n + b) (BitVec.ofNat 32 n) = BitVec.ofNat 32 n :=
  wrap_of_lt _ _ (by rw [BitVec.toNat_ofNat]; exact lt_of_le_of_lt (Nat.mod_le _ _) hn)

/-- At the column of rank `r` of row `i`: the score's positive part when it is among the 64 largest, zero otherwise. -/
theorem topkRelu_order (s : FVec Ideal S4096x8192 .f32) (i : Fin 4096) (r : Fin 8192) :
    topkRelu s (ix2 i (order (fun c => s (ix2 i c)) r))
      = if r.val < 64 then max (s (ix2 i (order (fun c => s (ix2 i c)) r))) 0 else 0 := by
  unfold topkRelu
  refine (scatter_order (T := 4096) (C := 8192) (K := 64) (by norm_num) (by norm_num) _ rfl rfl rfl (by norm_num) (by norm_num)
    s _ _ _ 0 (fun ι => ?_) (fun p k => ?_) (fun p k => ?_) i r).trans ?_
  · exact (broadcastInDim_scalar_apply _ _ _).trans zero_bits
  · refine (concatenate_pair_apply_left (t := S4096x64x2) (s₁ := S4096x64x1) (s₂ := S4096x64x1) (2 : Fin 3) _ _ _
        (ix3 p k (0 : Fin 2)) rfl (ix3 p k (0 : Fin 1)) (fun b => ?_)).trans ?_
    · fin_cases b <;> rfl
    · refine (bcLane _ _ p k).trans ((broadcastInDim_apply _ _ _ _ (ix2 p (0 : Fin 1)) (fun e => ?_)).trans ?_)
      · match e with
        | ⟨0, _⟩ => exact (if_neg (by norm_num)).symm
        | ⟨1, _⟩ => exact (if_pos rfl).symm
      · have hi : broadcastInDim S4096x1 ![0] bcast_S4096_S4096x1_0 (iotaInDim S4096 32 0) (ix2 p (0 : Fin 1)) = BitVec.ofNat 32 p.val :=
          (broadcastInDim_apply _ _ _ _ (ix1 p) (fun e => match e with | ⟨0, _⟩ => (if_neg (by norm_num)).symm)).trans rfl
        show Scalar.select (IntOp.cmpi .slt (broadcastInDim S4096x1 ![0] bcast_S4096_S4096x1_0 (iotaInDim S4096 32 0) (ix2 p (0 : Fin 1))) _)
          (_ + _) _ = _
        rw [hi]
        exact wrap_ofNat _ (p.isLt.trans (by norm_num)) _
  · refine (concatenate_pair_apply_right (t := S4096x64x2) (s₁ := S4096x64x1) (s₂ := S4096x64x1) (2 : Fin 3) _ _ _
        (ix3 p k (1 : Fin 2)) rfl rfl (ix3 p k (0 : Fin 1)) (fun b hb => ?_) rfl).trans ?_
    · fin_cases b
      · rfl
      · rfl
      · exact absurd rfl hb
    · refine (bcLane _ _ p k).trans ?_
      have hi := topK_idx (T := 4096) (N := 8192) (K := 64) sliceFits_S4096x8192_S4096x64 (by norm_num) s p k
      show Scalar.select (IntOp.cmpi .slt ((Host.topK S4096x64 1 (FloatOps.cmpfTotal .gt) s sliceFits_S4096x8192_S4096x64).2 (ix2 p k)) _)
          ((Host.topK S4096x64 1 (FloatOps.cmpfTotal .gt) s sliceFits_S4096x8192_S4096x64).2 (ix2 p k) + _)
          ((Host.topK S4096x64 1 (FloatOps.cmpfTotal .gt) s sliceFits_S4096x8192_S4096x64).2 (ix2 p k)) = _
      rw [show (Host.topK S4096x64 1 (FloatOps.cmpfTotal .gt) s sliceFits_S4096x8192_S4096x64).2 (ix2 p k) = _ from hi]
      exact wrap_ofNat _ ((Fin.isLt _).trans (by norm_num)) _
  · by_cases h : r.val < 64
    · rw [dif_pos h, if_pos h]
      have hv := topK_val (T := 4096) (N := 8192) (K := 64) sliceFits_S4096x8192_S4096x64 (by norm_num) s i ⟨r.val, h⟩
      show max ((Host.topK S4096x64 1 (FloatOps.cmpfTotal .gt) s sliceFits_S4096x8192_S4096x64).1 (ix2 i ⟨r.val, h⟩)) _ = _
      rw [show (Host.topK S4096x64 1 (FloatOps.cmpfTotal .gt) s sliceFits_S4096x8192_S4096x64).1 (ix2 i ⟨r.val, h⟩) = _ from hv]
      refine congrArg (max _) ((broadcastInDim_scalar_apply _ _ _).trans zero_bits)
    · rw [dif_neg h, if_neg h]

end Cert.Reference

end
-- ==== Proof.Result.lean ====
/-
  THE RESULT ARRAY. Point `t` of the grid writes rows `128 t … 128 t + 127` of the result from the same rows of `x`; so the array
  after the run is the reference's, wherever the precondition holds.
-/
module

public import proofs.«01_k».proof.Proof.Block
public import proofs.«01_k».proof.Proof.Reference
public import proofs.«01_k».proof.Proof.Precondition

@[expose] public section

noncomputable section

namespace Cert.Result

open Idealize.ShloMosaic Idealize.ShloMosaic.TcCoe Idealize.ShloMosaic.ValueIdx
open Cert.KernelIdeal Cert.KernelIdeal.Gen Cert.TopK

variable (m : (ℓ : Loc nD τ sig) → Buf (Elt Ideal) ℓ) (c : Dev nD)

/-- The two arguments. -/
abbrev argX : FVec Ideal S4096x1024 .f32 := m ((c : Thread nD τ).loc main_arg0)
abbrev argW : FVec Ideal S8192x1024 .f32 := m ((c : Thread nD τ).loc main_arg1)

theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 ∧ (cfg0.win 2).flush t = true ∧ t.val < 32 :=
  (by decide +kernel : ∀ t : Fin grid0.N, _)

/-- The array row of row `r` of block `t`. -/
def rowOf (t : Fin cfg0.N) (r : Fin 128) : Fin 4096 := ⟨t.val * 128 + r.val, by have := (idx_facts t).2.2.2.2.2.2.2; have := r.isLt; omega⟩

theorem iblk0_apply (t : Fin cfg0.N) (r : Fin 128) (k : Fin 1024) : iblk m c 0 t (ix2 r k) = argX m c (ix2 (rowOf t r) k) := by
  show V m c main_arg0 (((cfg0.win 0).blk t).view.emb (ix2 r k)) = _
  obtain ⟨e0, e1, _⟩ := idx_facts t
  refine congrArg (argX m c) (funext fun a => Fin.ext ?_)
  match a with
  | ⟨0, _⟩ => show win0_0.index t (0 : Fin 2) * 128 + 1 * r.val = t.val * 128 + r.val; omega
  | ⟨1, _⟩ => show win0_0.index t (1 : Fin 2) * 1024 + 1 * k.val = k.val; omega

theorem V_main_v0 : V m c main_v0 = transpose S1024x8192 [1, 0] (argW m c) transposes_S8192x1024_S1024x8192_1_0 := rfl

theorem iblk1_apply (t : Fin cfg0.N) (k : Fin 1024) (q : Fin 8192) : iblk m c 1 t (ix2 k q) = argW m c (ix2 q k) := by
  show V m c main_v0 (((cfg0.win 1).blk t).view.emb (ix2 k q)) = _
  obtain ⟨_, _, e0, e1, _⟩ := idx_facts t
  rw [V_main_v0]
  refine transpose_apply _ _ _ _ _ fun b => ?_
  match b with
  | ⟨0, _⟩ => show k.val = win0_1.index t (0 : Fin 2) * 1024 + 1 * k.val; omega
  | ⟨1, _⟩ => show q.val = win0_1.index t (1 : Fin 2) * 8192 + 1 * q.val; omega

theorem emb2 (t : Fin cfg0.N) (r : Fin 128) (q : Fin 8192) : ((cfg0.win 2).blk t).view.emb (ix2 r q) = ix2 (rowOf t r) q := by
  obtain ⟨_, _, _, _, e0, e1, _⟩ := idx_facts t
  refine funext fun a => Fin.ext ?_
  match a with
  | ⟨0, _⟩ => show win0_2.index t (0 : Fin 2) * 128 + 1 * r.val = t.val * 128 + r.val; omega
  | ⟨1, _⟩ => show win0_2.index t (1 : Fin 2) * 8192 + 1 * q.val = q.val; omega

/-- A block of the kernel's scores is the reference's. -/
theorem pay2_block (t : Fin cfg0.N) (r : Fin 128) (q : Fin 8192) :
    k0_pay2 (F := Ideal) (iblk m c 0 t) (iblk m c 1 t) (ix2 r q) = Precondition.scores (argX m c) (argW m c) (ix2 (rowOf t r) q) := by
  refine (Scores.pay2_apply _ _ r q).trans (Eq.trans ?_ (Scores.scores_apply _ _ _ q).symm)
  exact congrArg₂ Scores.score (funext fun k => iblk0_apply m c t r k) (funext fun k => iblk1_apply m c t k q)

/-- The result array after the run, at a row of block `t`. -/
theorem final_apply (t : Fin cfg0.N) (r : Fin 128) (q : Fin 8192) :
    ((dats m 0 c).arrAt 2 cfg0.N : FVec Ideal S4096x8192 .f32) (ix2 (rowOf t r) q)
      = if Threshold.thr ((Consts.eps : ℝ) : EReal) ((Consts.neg : ℝ) : EReal)
            (fun q => Precondition.scores (argX m c) (argW m c) (ix2 (rowOf t r) q))
          ≤ Precondition.scores (argX m c) (argW m c) (ix2 (rowOf t r) q)
        then max (Precondition.scores (argX m c) (argW m c) (ix2 (rowOf t r) q)) 0 else 0 := by
  have b := Cert.KernelIdeal.Value.blocks2 m c t (idx_facts t).2.2.2.2.2.2.1
  rw [Cert.KernelIdeal.Value.flushed2_A] at b
  have o := Block.out_apply c (grid0.coords t) (ms0_0 t) (hs0_0 t) (ms0_1 t) (hs0_1 t) (ms0_2 t) (hs0_2 t) scM0_0 (Memref.isWhole_whole _)
    (iblk m c 0 t) (iblk m c 1 t) r q
  have hX := fun q => pay2_block m c t r q
  generalize out0_A_2 (F := Ideal) c (grid0.coords t) (ms0_0 t) (hs0_0 t) (ms0_1 t) (hs0_1 t) (ms0_2 t) (hs0_2 t) scM0_0 (Memref.isWhole_whole _)
    (iblk m c 0 t) (iblk m c 1 t) = O at b o
  generalize k0_pay2 (F := Ideal) (iblk m c 0 t) (iblk m c 1 t) = X at hX o
  generalize (dats m 0 c).arrAt 2 cfg0.N = A at b ⊢
  have b' : A (((cfg0.win 2).blk t).view.emb (ix2 r q)) = O (ix2 r q) := congrFun b (ix2 r q)
  rw [emb2] at b'
  refine b'.trans (o.trans ?_)
  have hrow : Rows.row (M := 128) (N := 8192) X r = fun q => Precondition.scores (argX m c) (argW m c) (ix2 (rowOf t r) q) :=
    funext hX
  rw [hrow, hX q]

/-- The result array after the run is the reference's. -/
theorem final_eq (h : Cert.Pre_separated.fn (F := Ideal) (argX m c) (argW m c) = fun _ => 1#1) :
    (dats m 0 c).arrAt 2 cfg0.N = Cert.Reference.topkRelu (Precondition.scores (argX m c) (argW m c)) := by
  funext j
  have hj : (j 0).val < 4096 := (j 0).isLt
  have hN : cfg0.N = 32 := N_0
  obtain ⟨t, r, hi⟩ : ∃ (t : Fin cfg0.N) (r : Fin 128), rowOf t r = j 0 :=
    ⟨⟨(j 0).val / 128, by omega⟩, ⟨(j 0).val % 128, by omega⟩, Fin.ext (by show (j 0).val / 128 * 128 + (j 0).val % 128 = (j 0).val; omega)⟩
  have hjq : j = ix2 (rowOf t r) (j 1 : Fin 8192) := by
    refine funext fun a => ?_
    match a with
    | ⟨0, _⟩ => exact hi.symm
    | ⟨1, _⟩ => rfl
  rw [hjq]
  generalize (j 1 : Fin 8192) = q
  generalize hs : Precondition.scores (argX m c) (argW m c) = S
  refine (final_apply m c t r q).trans ?_
  rw [hs]
  have hsep := Precondition.separated_of_pre (argX m c) (argW m c) h (rowOf t r)
  rw [hs] at hsep
  obtain ⟨n, rfl⟩ := (order fun c => S (ix2 (rowOf t r) c)).surjective q
  refine Eq.trans ?_ (Reference.topkRelu_order S (rowOf t r) n).symm
  have hp := Threshold.thr_perm (fun c => S (ix2 (rowOf t r) c)) (order fun c => S (ix2 (rowOf t r) c)) ((Consts.eps : ℝ) : EReal)
    ((Consts.neg : ℝ) : EReal)
  rw [← hp]
  exact Threshold.masked_eq (by norm_num) (antitone_order _) Consts.eps_pos Consts.neg_neg hsep n

end Cert.Result

end
-- ==== Proof.lean ====
/-
  THE CLAIMS, ASSEMBLED. The frames are the generated ones; the one renamed constant is its rule's statement; and the value claim
  joins what the kernel's run leaves (Proof/Result.lean) to what the reference's run leaves (Proof/Reference.lean).
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.Pre_separated
public import proofs.«01_k».proof.Proof.Result
public import Idealize.ShloMosaic.Adequacy
public import Idealize.ShloMosaic.Init
public import Idealize.ShloMosaic.Lib.Quiescent

@[expose] public section

noncomputable section

namespace Cert.Proof

open Idealize.ShloMosaic Idealize.SL.Sem Cert.Kernel

/-- The reference terminates, keeps its arguments and has no semaphore. -/
theorem quiescent_reference [Cert.ReferenceIdeal.Facts] : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The ideal program is the kernel with the constant `floor_sq` read as its name says. -/
theorem preserves : Cert.preserves_Kernel_KernelIdeal :=
  IdealRules.named_const.statement Cert.KernelIdeal.κ "floor_sq" .f32 0x179ABE15#32
    ((5316911940649 / 5316911983139663491615228241121378304 : ℝ) : EReal) rfl

/-- Kernel and reference leave the same array, wherever the precondition holds. -/
theorem algebraic [Cert.ReferenceIdeal.Facts] [Cert.Pre_separated.Facts] :
    Cert.algebraic_KernelIdeal_ReferenceIdeal_pre_separated := by
  intro m g m' g' hpre hargs
  refine ⟨fun c => Cert.Reference.topkRelu (Cert.Precondition.scores (Cert.Result.argX m c) (Cert.Result.argW m c)), ?_, ?_⟩
  · exact (θ_run Cert.KernelIdeal.defs _ _).mono
      (fun r h c => ⟨(h c).1.trans (Cert.Result.final_eq m c (hpre c)), (h c).2.1, (h c).2.2⟩)
      (Cert.KernelIdeal.Value.run_blocks (F := Ideal) m g)
  · refine (θ_run Cert.ReferenceIdeal.defs _ _).mono (fun r h c => ⟨(h c).1.trans ?_, (h c).2.1, (h c).2.2⟩)
      (Cert.ReferenceIdeal.Value.run (F := Ideal) m' g')
    rw [(hargs c).1, (hargs c).2]
    rfl

theorem claim : Cert.Claim :=
  ⟨Cert.Kernel.Gen.facts, Cert.KernelIdeal.Gen.facts, Cert.ReferenceIdeal.Gen.facts, Cert.Pre_separated.Gen.facts,
    fun m ρ _ => Cert.Kernel.Gen.frame m ρ, fun m ρ _ => Cert.KernelIdeal.Gen.frame m ρ,
    fun m ρ _ => Cert.KernelIdeal.Gen.frame m ρ, quiescent_reference, fun m ρ _ => quiescent_reference m ρ trivial,
    preserves, algebraic⟩

end Cert.Proof

end
